-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x256 : Shape := ⟨3, ![4, 2048, 256]⟩
abbrev S512x256 : Shape := ⟨2, ![512, 256]⟩
abbrev S256x2 : Shape := ⟨2, ![256, 2]⟩
abbrev S256 : Shape := ⟨1, ![256]⟩
abbrev S48x256 : Shape := ⟨2, ![48, 256]⟩
abbrev S256x16 : Shape := ⟨2, ![256, 16]⟩
abbrev S256x256 : Shape := ⟨2, ![256, 256]⟩
abbrev S256x512 : Shape := ⟨2, ![256, 512]⟩
abbrev S256x1 : Shape := ⟨2, ![256, 1]⟩
abbrev S1x256 : Shape := ⟨2, ![1, 256]⟩
abbrev S256x48 : Shape := ⟨2, ![256, 48]⟩
abbrev S16x256 : Shape := ⟨2, ![16, 256]⟩
abbrev S1x2048x256 : Shape := ⟨3, ![1, 2048, 256]⟩
abbrev S2048x256 : Shape := ⟨2, ![2048, 256]⟩
abbrev S2048x512 : Shape := ⟨2, ![2048, 512]⟩
abbrev S2047x256 : Shape := ⟨2, ![2047, 256]⟩
abbrev S2048x48 : Shape := ⟨2, ![2048, 48]⟩
abbrev S2048x16 : Shape := ⟨2, ![2048, 16]⟩
abbrev S48x512 : Shape := ⟨2, ![48, 512]⟩
abbrev S1x512 : Shape := ⟨2, ![1, 512]⟩
abbrev S64x32x512 : Shape := ⟨3, ![64, 32, 512]⟩
abbrev S64x31x512 : Shape := ⟨3, ![64, 31, 512]⟩
abbrev S64x1x512 : Shape := ⟨3, ![64, 1, 512]⟩
abbrev S64x30x512 : Shape := ⟨3, ![64, 30, 512]⟩
abbrev S64x2x512 : Shape := ⟨3, ![64, 2, 512]⟩
abbrev S64x28x512 : Shape := ⟨3, ![64, 28, 512]⟩
abbrev S64x4x512 : Shape := ⟨3, ![64, 4, 512]⟩
abbrev S64x24x512 : Shape := ⟨3, ![64, 24, 512]⟩
abbrev S64x8x512 : Shape := ⟨3, ![64, 8, 512]⟩
abbrev S64x16x512 : Shape := ⟨3, ![64, 16, 512]⟩
abbrev S64x512 : Shape := ⟨2, ![64, 512]⟩
abbrev S63x512 : Shape := ⟨2, ![63, 512]⟩
abbrev S62x512 : Shape := ⟨2, ![62, 512]⟩
abbrev S2x512 : Shape := ⟨2, ![2, 512]⟩
abbrev S60x512 : Shape := ⟨2, ![60, 512]⟩
abbrev S4x512 : Shape := ⟨2, ![4, 512]⟩
abbrev S56x512 : Shape := ⟨2, ![56, 512]⟩
abbrev S8x512 : Shape := ⟨2, ![8, 512]⟩
abbrev S16x512 : Shape := ⟨2, ![16, 512]⟩
abbrev S32x512 : Shape := ⟨2, ![32, 512]⟩

abbrev nBuf : Space → Nat
  | .hbm => 48
  | .vmem => 24
  | .smem => 0
  | _ => 0

abbrev bufTy : (tb : Table) → Fin (tcTables nBuf tb) → BufTy
  | .hbm, ⟨0, _⟩ => ⟨S4x2048x256, .f32⟩
  | .hbm, ⟨1, _⟩ => ⟨S512x256, .f32⟩
  | .hbm, ⟨2, _⟩ => ⟨S256x2, .f32⟩
  | .hbm, ⟨3, _⟩ => ⟨S256, .f32⟩
  | .hbm, ⟨4, _⟩ => ⟨S48x256, .f32⟩
  | .hbm, ⟨5, _⟩ => ⟨S256x16, .f32⟩
  | .hbm, ⟨6, _⟩ => ⟨S256, .f32⟩
  | .hbm, ⟨7, _⟩ => ⟨S256x16, .f32⟩
  | .hbm, ⟨8, _⟩ => ⟨S256, .f32⟩
  | .hbm, ⟨9, _⟩ => ⟨S256x256, .f32⟩
  | .hbm, ⟨10, _⟩ => ⟨S512x256, .f32⟩
  | .hbm, ⟨11, _⟩ => ⟨S256x2, .f32⟩
  | .hbm, ⟨12, _⟩ => ⟨S256, .f32⟩
  | .hbm, ⟨13, _⟩ => ⟨S48x256, .f32⟩
  | .hbm, ⟨14, _⟩ => ⟨S256x16, .f32⟩
  | .hbm, ⟨15, _⟩ => ⟨S256, .f32⟩
  | .hbm, ⟨16, _⟩ => ⟨S256x16, .f32⟩
  | .hbm, ⟨17, _⟩ => ⟨S256, .f32⟩
  | .hbm, ⟨18, _⟩ => ⟨S256x256, .f32⟩
  | .hbm, ⟨19, _⟩ => ⟨S256x512, .f32⟩
  | .hbm, ⟨20, _⟩ => ⟨S256x1, .f32⟩
  | .hbm, ⟨21, _⟩ => ⟨S256, .f32⟩
  | .hbm, ⟨22, _⟩ => ⟨S1x256, .f32⟩
  | .hbm, ⟨23, _⟩ => ⟨S256x1, .f32⟩
  | .hbm, ⟨24, _⟩ => ⟨S256, .f32⟩
  | .hbm, ⟨25, _⟩ => ⟨S1x256, .f32⟩
  | .hbm, ⟨26, _⟩ => ⟨S1x256, .f32⟩
  | .hbm, ⟨27, _⟩ => ⟨S256x48, .f32⟩
  | .hbm, ⟨28, _⟩ => ⟨S16x256, .f32⟩
  | .hbm, ⟨29, _⟩ => ⟨S1x256, .f32⟩
  | .hbm, ⟨30, _⟩ => ⟨S16x256, .f32⟩
  | .hbm, ⟨31, _⟩ => ⟨S1x256, .f32⟩
  | .hbm, ⟨32, _⟩ => ⟨S256x256, .f32⟩
  | .hbm, ⟨33, _⟩ => ⟨S256x512, .f32⟩
  | .hbm, ⟨34, _⟩ => ⟨S256x1, .f32⟩
  | .hbm, ⟨35, _⟩ => ⟨S256, .f32⟩
  | .hbm, ⟨36, _⟩ => ⟨S1x256, .f32⟩
  | .hbm, ⟨37, _⟩ => ⟨S256x1, .f32⟩
  | .hbm, ⟨38, _⟩ => ⟨S256, .f32⟩
  | .hbm, ⟨39, _⟩ => ⟨S1x256, .f32⟩
  | .hbm, ⟨40, _⟩ => ⟨S1x256, .f32⟩
  | .hbm, ⟨41, _⟩ => ⟨S256x48, .f32⟩
  | .hbm, ⟨42, _⟩ => ⟨S16x256, .f32⟩
  | .hbm, ⟨43, _⟩ => ⟨S1x256, .f32⟩
  | .hbm, ⟨44, _⟩ => ⟨S16x256, .f32⟩
  | .hbm, ⟨45, _⟩ => ⟨S1x256, .f32⟩
  | .hbm, ⟨46, _⟩ => ⟨S256x256, .f32⟩
  | .hbm, ⟨47, _⟩ => ⟨S4x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S256x512, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S256x48, .f32⟩
  | .local _ .vmem, ⟨7, _⟩ => ⟨S16x256, .f32⟩
  | .local _ .vmem, ⟨8, _⟩ => ⟨S1x256, .f32⟩
  | .local _ .vmem, ⟨9, _⟩ => ⟨S16x256, .f32⟩
  | .local _ .vmem, ⟨10, _⟩ => ⟨S1x256, .f32⟩
  | .local _ .vmem, ⟨11, _⟩ => ⟨S256x256, .f32⟩
  | .local _ .vmem, ⟨12, _⟩ => ⟨S256x512, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x48, .f32⟩
  | .local _ .vmem, ⟨17, _⟩ => ⟨S16x256, .f32⟩
  | .local _ .vmem, ⟨18, _⟩ => ⟨S1x256, .f32⟩
  | .local _ .vmem, ⟨19, _⟩ => ⟨S16x256, .f32⟩
  | .local _ .vmem, ⟨20, _⟩ => ⟨S1x256, .f32⟩
  | .local _ .vmem, ⟨21, _⟩ => ⟨S256x256, .f32⟩
  | .local _ .vmem, ⟨22, _⟩ => ⟨S1x2048x256, .f32⟩
  | .local _ .vmem, ⟨23, _⟩ => ⟨S1x2048x256, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_v0 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v62 : BitVec 32 := Scalar.addi c0_i32 c8_i32
  let c1_i32 : BitVec 32 := 1#32
  ⟨c0_i32, v62, c1_i32⟩
def k0_off1 (k0_t1 : Fin k0_t1_loop.trips) : Fin 2 → Nat :=
  let c0_i32 : BitVec 32 := 0#32
  let c1_i32 : BitVec 32 := 1#32
  let arg23 : BitVec 32 := Scf.iv c0_i32 c1_i32 k0_t1
  let v160 : Index := Scalar.indexCast arg23
  let c0_67 : Index := 0#32
  ![v160.toNat, 0]
def k0_off2 (k0_t1 : Fin k0_t1_loop.trips) : Fin 2 → Nat :=
  let c0_i32 : BitVec 32 := 0#32
  let c1_i32 : BitVec 32 := 1#32
  let arg23 : BitVec 32 := Scf.iv c0_i32 c1_i32 k0_t1
  let c8_i32_68 : BitVec 32 := 8#32
  let v163 : BitVec 32 := Scalar.addi arg23 c8_i32_68
  let v164 : Index := Scalar.indexCast v163
  let c0_69 : Index := 0#32
  ![v164.toNat, 0]
@[reducible] def k0_t2_loop : Scf.Loop 32 :=
  let c0_i32_54 : BitVec 32 := 0#32
  let c8_i32_55 : BitVec 32 := 8#32
  let v131 : BitVec 32 := Scalar.addi c0_i32_54 c8_i32_55
  let c1_i32_56 : BitVec 32 := 1#32
  ⟨c0_i32_54, v131, c1_i32_56⟩
def k0_off3 (k0_t2 : Fin k0_t2_loop.trips) : Fin 2 → Nat :=
  let c0_i32_54 : BitVec 32 := 0#32
  let c1_i32_56 : BitVec 32 := 1#32
  let arg23 : BitVec 32 := Scf.iv c0_i32_54 c1_i32_56 k0_t2
  let v160 : Index := Scalar.indexCast arg23
  let c0_67 : Index := 0#32
  ![v160.toNat, 0]
def k0_off4 (k0_t2 : Fin k0_t2_loop.trips) : Fin 2 → Nat :=
  let c0_i32_54 : BitVec 32 := 0#32
  let c1_i32_56 : BitVec 32 := 1#32
  let arg23 : BitVec 32 := Scf.iv c0_i32_54 c1_i32_56 k0_t2
  let c8_i32_68 : BitVec 32 := 8#32
  let v163 : BitVec 32 := Scalar.addi arg23 c8_i32_68
  let v164 : Index := Scalar.indexCast v163
  let c0_69 : Index := 0#32
  ![v164.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x48 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1x2048x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S4x2048x256 : Shape := ⟨3, ![4, 2048, 256]⟩
abbrev S512x256 : Shape := ⟨2, ![512, 256]⟩
abbrev S256x2 : Shape := ⟨2, ![256, 2]⟩
abbrev S256 : Shape := ⟨1, ![256]⟩
abbrev S48x256 : Shape := ⟨2, ![48, 256]⟩
abbrev S256x16 : Shape := ⟨2, ![256, 16]⟩
abbrev S256x256 : Shape := ⟨2, ![256, 256]⟩
abbrev S4x2048x512 : Shape := ⟨3, ![4, 2048, 512]⟩
abbrev S_ : Shape := ⟨0, ![]⟩
abbrev S4x2049x256 : Shape := ⟨3, ![4, 2049, 256]⟩
abbrev S256x1 : Shape := ⟨2, ![256, 1]⟩
abbrev S1x1x256 : Shape := ⟨3, ![1, 1, 256]⟩
abbrev S4x2048x48 : Shape := ⟨3, ![4, 2048, 48]⟩
abbrev S4x2048x16 : Shape := ⟨3, ![4, 2048, 16]⟩
abbrev S4x2048x256x1 : Shape := ⟨4, ![4, 2048, 256, 1]⟩
abbrev S1x1x256x16 : Shape := ⟨4, ![1, 1, 256, 16]⟩
abbrev S4x2048x256x16 : Shape := ⟨4, ![4, 2048, 256, 16]⟩
abbrev S4x2048x1x16 : Shape := ⟨4, ![4, 2048, 1, 16]⟩
abbrev S2048x4x256x16 : Shape := ⟨4, ![2048, 4, 256, 16]⟩
abbrev S2048x4x16 : Shape := ⟨3, ![2048, 4, 16]⟩
abbrev S4x256x16 : Shape := ⟨3, ![4, 256, 16]⟩
abbrev S2048x4x256 : Shape := ⟨3, ![2048, 4, 256]⟩
abbrev S1x4x256x16 : Shape := ⟨4, ![1, 4, 256, 16]⟩
abbrev S1x4x16 : Shape := ⟨3, ![1, 4, 16]⟩
abbrev S4x16 : Shape := ⟨2, ![4, 16]⟩
abbrev S4x256 : Shape := ⟨2, ![4, 256]⟩
abbrev S1x4x256 : Shape := ⟨3, ![1, 4, 256]⟩

abbrev nBuf : Space → Nat
  | .hbm => 260
  | .vmem => 0
  | .smem => 0
  | _ => 0

abbrev hbmTy0_0 (i : Nat) : BufTy := match i % 128 with
  | 0 => ⟨S4x2048x256, .f32⟩
  | 1 => ⟨S512x256, .f32⟩
  | 2 => ⟨S256x2, .f32⟩
  | 3 => ⟨S256, .f32⟩
  | 4 => ⟨S48x256, .f32⟩
  | 5 => ⟨S256x16, .f32⟩
  | 6 => ⟨S256, .f32⟩
  | 7 => ⟨S256x16, .f32⟩
  | 8 => ⟨S256, .f32⟩
  | 9 => ⟨S256x256, .f32⟩
  | 10 => ⟨S512x256, .f32⟩
  | 11 => ⟨S256x2, .f32⟩
  | 12 => ⟨S256, .f32⟩
  | 13 => ⟨S48x256, .f32⟩
  | 14 => ⟨S256x16, .f32⟩
  | 15 => ⟨S256, .f32⟩
  | 16 => ⟨S256x16, .f32⟩
  | 17 => ⟨S256, .f32⟩
  | 18 => ⟨S256x256, .f32⟩
  | 19 => ⟨S4x2048x512, .f32⟩
  | 20 => ⟨S4x2048x256, .f32⟩
  | 21 => ⟨S4x2048x256, .f32⟩
  | 22 => ⟨S_, .i32⟩
  | 23 => ⟨S_, .f32⟩
  | 24 => ⟨S4x2049x256, .f32⟩
  | 25 => ⟨S4x2048x256, .f32⟩
  | 26 => ⟨S256x1, .f32⟩
  | 27 => ⟨S256, .f32⟩
  | 28 => ⟨S1x1x256, .f32⟩
  | 29 => ⟨S4x2048x256, .f32⟩
  | 30 => ⟨S4x2048x256, .f32⟩
  | 31 => ⟨S256x1, .f32⟩
  | 32 => ⟨S256, .f32⟩
  | 33 => ⟨S1x1x256, .f32⟩
  | 34 => ⟨S4x2048x256, .f32⟩
  | 35 => ⟨S4x2048x256, .f32⟩
  | 36 => ⟨S4x2048x256, .f32⟩
  | 37 => ⟨S1x1x256, .f32⟩
  | 38 => ⟨S4x2048x256, .f32⟩
  | 39 => ⟨S4x2048x256, .f32⟩
  | 40 => ⟨S4x2048x256, .f32⟩
  | 41 => ⟨S4x2048x256, .f32⟩
  | 42 => ⟨S_, .f32⟩
  | 43 => ⟨S4x2048x256, .f32⟩
  | 44 => ⟨S4x2048x256, .f32⟩
  | 45 => ⟨S_, .f32⟩
  | 46 => ⟨S4x2048x256, .f32⟩
  | 47 => ⟨S4x2048x256, .f32⟩
  | 48 => ⟨S4x2048x256, .f32⟩
  | 49 => ⟨S4x2048x48, .f32⟩
  | 50 => ⟨S4x2048x16, .f32⟩
  | 51 => ⟨S4x2048x256, .f32⟩
  | 52 => ⟨S1x1x256, .f32⟩
  | 53 => ⟨S4x2048x256, .f32⟩
  | 54 => ⟨S4x2048x256, .f32⟩
  | 55 => ⟨S_, .f32⟩
  | 56 => ⟨S4x2048x256, .f32⟩
  | 57 => ⟨S4x2048x256, .f32⟩
  | 58 => ⟨S4x2048x256, .f32⟩
  | 59 => ⟨S4x2048x256, .f32⟩
  | 60 => ⟨S4x2048x256, .i1⟩
  | 61 => ⟨S4x2048x256, .f32⟩
  | 62 => ⟨S4x2048x256, .f32⟩
  | 63 => ⟨S4x2048x256, .f32⟩
  | 64 => ⟨S4x2048x256, .f32⟩
  | 65 => ⟨S4x2048x256, .f32⟩
  | 66 => ⟨S4x2048x256, .f32⟩
  | 67 => ⟨S4x2048x256, .f32⟩
  | 68 => ⟨S4x2048x256, .f32⟩
  | 69 => ⟨S4x2048x16, .f32⟩
  | 70 => ⟨S4x2048x16, .f32⟩
  | 71 => ⟨S256x16, .f32⟩
  | 72 => ⟨S256x16, .f32⟩
  | 73 => ⟨S4x2048x256x1, .f32⟩
  | 74 => ⟨S1x1x256x16, .f32⟩
  | 75 => ⟨S4x2048x256x16, .f32⟩
  | 76 => ⟨S4x2048x256x16, .f32⟩
  | 77 => ⟨S4x2048x256x16, .f32⟩
  | 78 => ⟨S4x2048x256x16, .f32⟩
  | 79 => ⟨S4x2048x256x1, .f32⟩
  | 80 => ⟨S4x2048x1x16, .f32⟩
  | 81 => ⟨S4x2048x256x16, .f32⟩
  | 82 => ⟨S4x2048x256x16, .f32⟩
  | 83 => ⟨S4x2048x256x16, .f32⟩
  | 84 => ⟨S4x2048x256x1, .f32⟩
  | 85 => ⟨S4x2048x256x16, .f32⟩
  | 86 => ⟨S4x2048x256x16, .f32⟩
  | 87 => ⟨S2048x4x256x16, .f32⟩
  | 88 => ⟨S2048x4x256x16, .f32⟩
  | 89 => ⟨S2048x4x16, .f32⟩
  | 90 => ⟨S4x2048x256, .f32⟩
  | 91 => ⟨S4x2048x512, .f32⟩
  | 92 => ⟨S4x2048x256, .f32⟩
  | 93 => ⟨S4x2048x256, .f32⟩
  | 94 => ⟨S_, .i32⟩
  | 95 => ⟨S_, .f32⟩
  | 96 => ⟨S4x2049x256, .f32⟩
  | 97 => ⟨S4x2048x256, .f32⟩
  | 98 => ⟨S256x1, .f32⟩
  | 99 => ⟨S256, .f32⟩
  | 100 => ⟨S1x1x256, .f32⟩
  | 101 => ⟨S4x2048x256, .f32⟩
  | 102 => ⟨S4x2048x256, .f32⟩
  | 103 => ⟨S256x1, .f32⟩
  | 104 => ⟨S256, .f32⟩
  | 105 => ⟨S1x1x256, .f32⟩
  | 106 => ⟨S4x2048x256, .f32⟩
  | 107 => ⟨S4x2048x256, .f32⟩
  | 108 => ⟨S4x2048x256, .f32⟩
  | 109 => ⟨S1x1x256, .f32⟩
  | 110 => ⟨S4x2048x256, .f32⟩
  | 111 => ⟨S4x2048x256, .f32⟩
  | 112 => ⟨S4x2048x256, .f32⟩
  | 113 => ⟨S4x2048x256, .f32⟩
  | 114 => ⟨S_, .f32⟩
  | 115 => ⟨S4x2048x256, .f32⟩
  | 116 => ⟨S4x2048x256, .f32⟩
  | 117 => ⟨S_, .f32⟩
  | 118 => ⟨S4x2048x256, .f32⟩
  | 119 => ⟨S4x2048x256, .f32⟩
  | 120 => ⟨S4x2048x256, .f32⟩
  | 121 => ⟨S4x2048x48, .f32⟩
  | 122 => ⟨S4x2048x16, .f32⟩
  | 123 => ⟨S4x2048x256, .f32⟩
  | 124 => ⟨S1x1x256, .f32⟩
  | 125 => ⟨S4x2048x256, .f32⟩
  | 126 => ⟨S4x2048x256, .f32⟩
  | 127 => ⟨S_, .f32⟩
  | _ => ⟨S4x2048x256, .f32⟩

abbrev hbmTy0_1 (i : Nat) : BufTy := match i % 128 with
  | 0 => ⟨S4x2048x256, .f32⟩
  | 1 => ⟨S4x2048x256, .f32⟩
  | 2 => ⟨S4x2048x256, .f32⟩
  | 3 => ⟨S4x2048x256, .f32⟩
  | 4 => ⟨S4x2048x256, .i1⟩
  | 5 => ⟨S4x2048x256, .f32⟩
  | 6 => ⟨S4x2048x256, .f32⟩
  | 7 => ⟨S4x2048x256, .f32⟩
  | 8 => ⟨S4x2048x256, .f32⟩
  | 9 => ⟨S4x2048x256, .f32⟩
  | 10 => ⟨S4x2048x256, .f32⟩
  | 11 => ⟨S4x2048x256, .f32⟩
  | 12 => ⟨S4x2048x256, .f32⟩
  | 13 => ⟨S4x2048x16, .f32⟩
  | 14 => ⟨S4x2048x16, .f32⟩
  | 15 => ⟨S256x16, .f32⟩
  | 16 => ⟨S256x16, .f32⟩
  | 17 => ⟨S4x2048x256x1, .f32⟩
  | 18 => ⟨S1x1x256x16, .f32⟩
  | 19 => ⟨S4x2048x256x16, .f32⟩
  | 20 => ⟨S4x2048x256x16, .f32⟩
  | 21 => ⟨S4x2048x256x16, .f32⟩
  | 22 => ⟨S4x2048x256x16, .f32⟩
  | 23 => ⟨S4x2048x256x1, .f32⟩
  | 24 => ⟨S4x2048x1x16, .f32⟩
  | 25 => ⟨S4x2048x256x16, .f32⟩
  | 26 => ⟨S4x2048x256x16, .f32⟩
  | 27 => ⟨S4x2048x256x16, .f32⟩
  | 28 => ⟨S4x2048x256x1, .f32⟩
  | 29 => ⟨S4x2048x256x16, .f32⟩
  | 30 => ⟨S4x2048x256x16, .f32⟩
  | 31 => ⟨S2048x4x256x16, .f32⟩
  | 32 => ⟨S2048x4x256x16, .f32⟩
  | 33 => ⟨S2048x4x16, .f32⟩
  | 34 => ⟨S_, .f32⟩
  | 35 => ⟨S4x256x16, .f32⟩
  | 36 => ⟨S_, .f32⟩
  | 37 => ⟨S2048x4x256, .f32⟩
  | 38 => ⟨S_, .f32⟩
  | 39 => ⟨S2048x4x256, .f32⟩
  | 40 => ⟨S_, .i32⟩
  | 41 => ⟨S2048x4x256x16, .f32⟩
  | 42 => ⟨S2048x4x256x16, .f32⟩
  | 43 => ⟨S2048x4x16, .f32⟩
  | 44 => ⟨S2048x4x256x16, .f32⟩
  | 45 => ⟨S2048x4x256x16, .f32⟩
  | 46 => ⟨S2048x4x16, .f32⟩
  | 47 => ⟨S_, .i32⟩
  | 48 => ⟨S4x256x16, .f32⟩
  | 49 => ⟨S4x256x16, .f32⟩
  | 50 => ⟨S2048x4x256, .f32⟩
  | 51 => ⟨S2048x4x256, .f32⟩
  | 52 => ⟨S_, .i32⟩
  | 53 => ⟨S_, .i1⟩
  | 54 => ⟨S_, .i32⟩
  | 55 => ⟨S_, .i32⟩
  | 56 => ⟨S_, .i32⟩
  | 57 => ⟨S1x4x256x16, .f32⟩
  | 58 => ⟨S4x256x16, .f32⟩
  | 59 => ⟨S_, .i32⟩
  | 60 => ⟨S_, .i32⟩
  | 61 => ⟨S_, .i32⟩
  | 62 => ⟨S1x4x256x16, .f32⟩
  | 63 => ⟨S4x256x16, .f32⟩
  | 64 => ⟨S_, .i32⟩
  | 65 => ⟨S_, .i32⟩
  | 66 => ⟨S1x4x16, .f32⟩
  | 67 => ⟨S4x16, .f32⟩
  | 68 => ⟨S_, .i32⟩
  | 69 => ⟨S_, .i32⟩
  | 70 => ⟨S_, .i32⟩
  | 71 => ⟨S1x4x256x16, .f32⟩
  | 72 => ⟨S4x256x16, .f32⟩
  | 73 => ⟨S_, .i32⟩
  | 74 => ⟨S_, .i32⟩
  | 75 => ⟨S_, .i32⟩
  | 76 => ⟨S1x4x256x16, .f32⟩
  | 77 => ⟨S4x256x16, .f32⟩
  | 78 => ⟨S_, .i32⟩
  | 79 => ⟨S_, .i32⟩
  | 80 => ⟨S1x4x16, .f32⟩
  | 81 => ⟨S4x16, .f32⟩
  | 82 => ⟨S4x256x16, .f32⟩
  | 83 => ⟨S4x256x16, .f32⟩
  | 84 => ⟨S4x256, .f32⟩
  | 85 => ⟨S4x256x16, .f32⟩
  | 86 => ⟨S4x256x16, .f32⟩
  | 87 => ⟨S4x256, .f32⟩
  | 88 => ⟨S1x4x256, .f32⟩
  | 89 => ⟨S_, .i32⟩
  | 90 => ⟨S_, .i32⟩
  | 91 => ⟨S2048x4x256, .f32⟩
  | 92 => ⟨S1x4x256, .f32⟩
  | 93 => ⟨S_, .i32⟩
  | 94 => ⟨S_, .i32⟩
  | 95 => ⟨S2048x4x256, .f32⟩
  | 96 => ⟨S_, .i32⟩
  | 97 => ⟨S_, .i32⟩
  | 98 => ⟨S4x2048x256, .f32⟩
  | 99 => ⟨S1x1x256, .f32⟩
  | 100 => ⟨S4x2048x256, .f32⟩
  | 101 => ⟨S4x2048x256, .f32⟩
  | 102 => ⟨S4x2048x256, .f32⟩
  | 103 => ⟨S4x2048x256, .f32⟩
  | 104 => ⟨S4x2048x256, .f32⟩
  | 105 => ⟨S_, .f32⟩
  | 106 => ⟨S4x2048x256, .f32⟩
  | 107 => ⟨S4x2048x256, .f32⟩
  | 108 => ⟨S_, .f32⟩
  | 109 => ⟨S4x2048x256, .f32⟩
  | 110 => ⟨S4x2048x256, .f32⟩
  | 111 => ⟨S4x2048x256, .f32⟩
  | 112 => ⟨S4x2048x256, .f32⟩
  | 113 => ⟨S4x2048x256, .f32⟩
  | 114 => ⟨S4x2048x256, .f32⟩
  | 115 => ⟨S1x1x256, .f32⟩
  | 116 => ⟨S4x2048x256, .f32⟩
  | 117 => ⟨S4x2048x256, .f32⟩
  | 118 => ⟨S4x2048x256, .f32⟩
  | 119 => ⟨S4x2048x256, .f32⟩
  | 120 => ⟨S4x2048x256, .f32⟩
  | 121 => ⟨S_, .f32⟩
  | 122 => ⟨S4x2048x256, .f32⟩
  | 123 => ⟨S4x2048x256, .f32⟩
  | 124 => ⟨S_, .f32⟩
  | 125 => ⟨S4x2048x256, .f32⟩
  | 126 => ⟨S4x2048x256, .f32⟩
  | 127 => ⟨S4x2048x256, .f32⟩
  | _ => ⟨S4x2048x256, .f32⟩

abbrev hbmTy0_2 (i : Nat) : BufTy := match i % 128 with
  | 0 => ⟨S4x2048x256, .f32⟩
  | 1 => ⟨S4x2048x256, .f32⟩
  | 2 => ⟨S4x2048x256, .f32⟩
  | 3 => ⟨S4x2048x256, .f32⟩
  | _ => ⟨S4x2048x256, .f32⟩

abbrev hbmTy (i : Nat) : BufTy := match i / 128 with
  | 0 => hbmTy0_0 i
  | 1 => hbmTy0_1 i
  | 2 => hbmTy0_2 i
  | _ => ⟨S4x2048x256, .f32⟩

abbrev bufTy : (tb : Table) → Fin (tcTables nBuf tb) → BufTy
  | .hbm, ⟨i, _⟩ => hbmTy i
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_call0_v0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_call2_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_c_0 : Ref sig .tc := ⟨.hbm, 94, rfl⟩
abbrev main_call4_v0 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_call5_v0 : Ref sig .tc := ⟨.hbm, 112, rfl⟩
abbrev main_call5_v1 : Ref sig .tc := ⟨.hbm, 113, rfl⟩
abbrev main_call5_cst : Ref sig .tc := ⟨.hbm, 114, rfl⟩
abbrev main_call5_v2 : Ref sig .tc := ⟨.hbm, 115, rfl⟩
abbrev main_call5_v3 : Ref sig .tc := ⟨.hbm, 116, rfl⟩
abbrev main_call5_cst_0 : Ref sig .tc := ⟨.hbm, 117, rfl⟩
abbrev main_call5_v4 : Ref sig .tc := ⟨.hbm, 118, rfl⟩
abbrev main_call5_v5 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_call6_cst : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_call6_v3 : Ref sig .tc := ⟨.hbm, 131, rfl⟩
abbrev main_call6_v4 : Ref sig .tc := ⟨.hbm, 132, rfl⟩
abbrev main_call6_v5 : Ref sig .tc := ⟨.hbm, 133, rfl⟩
abbrev main_call6_v6 : Ref sig .tc := ⟨.hbm, 134, rfl⟩
abbrev main_call6_v7 : Ref sig .tc := ⟨.hbm, 135, rfl⟩
abbrev main_call6_v8 : Ref sig .tc := ⟨.hbm, 136, rfl⟩
abbrev main_call6_v9 : Ref sig .tc := ⟨.hbm, 137, rfl⟩
abbrev main_call6_v10 : Ref sig .tc := ⟨.hbm, 138, rfl⟩
abbrev main_call6_v11 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_cst : Ref sig .tc := ⟨.hbm, 162, rfl⟩
abbrev main_v97 : Ref sig .tc := ⟨.hbm, 163, rfl⟩
abbrev main_cst_1 : Ref sig .tc := ⟨.hbm, 164, rfl⟩
abbrev main_v98 : Ref sig .tc := ⟨.hbm, 165, rfl⟩
abbrev main_cst_2 : Ref sig .tc := ⟨.hbm, 166, rfl⟩
abbrev main_v99 : Ref sig .tc := ⟨.hbm, 167, rfl⟩
abbrev main_c_3 : Ref sig .tc := ⟨.hbm, 168, rfl⟩
abbrev main_v100_0 : Ref sig .tc := ⟨.hbm, 169, rfl⟩
abbrev main_v100_1 : Ref sig .tc := ⟨.hbm, 170, rfl⟩
abbrev main_v100_2 : Ref sig .tc := ⟨.hbm, 171, rfl⟩
abbrev main_v100_3 : Ref sig .tc := ⟨.hbm, 172, rfl⟩
abbrev main_v100_4 : Ref sig .tc := ⟨.hbm, 173, rfl⟩
abbrev main_v100_5 : Ref sig .tc := ⟨.hbm, 174, rfl⟩
abbrev main_v100_6 : Ref sig .tc := ⟨.hbm, 175, rfl⟩
abbrev main_v100_7 : Ref sig .tc := ⟨.hbm, 176, rfl⟩
abbrev main_v100_8 : Ref sig .tc := ⟨.hbm, 177, rfl⟩
abbrev main_v100_9 : Ref sig .tc := ⟨.hbm, 178, rfl⟩
abbrev main_v100_10 : Ref sig .tc := ⟨.hbm, 179, rfl⟩
abbrev main_while0c_c_14 : Ref sig .tc := ⟨.hbm, 180, rfl⟩
abbrev main_while0c_v119 : Ref sig .tc := ⟨.hbm, 181, rfl⟩
abbrev main_while0b_call7_c : Ref sig .tc := ⟨.hbm, 182, rfl⟩
abbrev main_while0b_call7_c_0 : Ref sig .tc := ⟨.hbm, 183, rfl⟩
abbrev main_while0b_call7_c_1 : Ref sig .tc := ⟨.hbm, 184, rfl⟩
abbrev main_while0b_call7_v0 : Ref sig .tc := ⟨.hbm, 185, rfl⟩
abbrev main_while0b_v119 : Ref sig .tc := ⟨.hbm, 186, rfl⟩
abbrev main_while0b_call8_c : Ref sig .tc := ⟨.hbm, 187, rfl⟩
abbrev main_while0b_call8_c_0 : Ref sig .tc := ⟨.hbm, 188, rfl⟩
abbrev main_while0b_call8_c_1 : Ref sig .tc := ⟨.hbm, 189, rfl⟩
abbrev main_while0b_call8_v0 : Ref sig .tc := ⟨.hbm, 190, rfl⟩
abbrev main_while0b_v120 : Ref sig .tc := ⟨.hbm, 191, rfl⟩
abbrev main_while0b_call9_c : Ref sig .tc := ⟨.hbm, 192, rfl⟩
abbrev main_while0b_call9_c_0 : Ref sig .tc := ⟨.hbm, 193, rfl⟩
abbrev main_while0b_call9_v0 : Ref sig .tc := ⟨.hbm, 194, rfl⟩
abbrev main_while0b_v121 : Ref sig .tc := ⟨.hbm, 195, rfl⟩
abbrev main_while0b_call10_c : Ref sig .tc := ⟨.hbm, 196, rfl⟩
abbrev main_while0b_call10_c_0 : Ref sig .tc := ⟨.hbm, 197, rfl⟩
abbrev main_while0b_call10_c_1 : Ref sig .tc := ⟨.hbm, 198, rfl⟩
abbrev main_while0b_call10_v0 : Ref sig .tc := ⟨.hbm, 199, rfl⟩
abbrev main_while0b_v122 : Ref sig .tc := ⟨.hbm, 200, rfl⟩
abbrev main_while0b_call11_c : Ref sig .tc := ⟨.hbm, 201, rfl⟩
abbrev main_while0b_call11_c_0 : Ref sig .tc := ⟨.hbm, 202, rfl⟩
abbrev main_while0b_call11_c_1 : Ref sig .tc := ⟨.hbm, 203, rfl⟩
abbrev main_while0b_call11_v0 : Ref sig .tc := ⟨.hbm, 204, rfl⟩
abbrev main_while0b_v123 : Ref sig .tc := ⟨.hbm, 205, rfl⟩
abbrev main_while0b_call12_c : Ref sig .tc := ⟨.hbm, 206, rfl⟩
abbrev main_while0b_call12_c_0 : Ref sig .tc := ⟨.hbm, 207, rfl⟩
abbrev main_while0b_call12_v0 : Ref sig .tc := ⟨.hbm, 208, rfl⟩
abbrev main_while0b_v124 : Ref sig .tc := ⟨.hbm, 209, rfl⟩
abbrev main_while0b_v125 : Ref sig .tc := ⟨.hbm, 210, rfl⟩
abbrev main_while0b_v126 : Ref sig .tc := ⟨.hbm, 211, rfl⟩
abbrev main_while0b_v127 : Ref sig .tc := ⟨.hbm, 212, rfl⟩
abbrev main_while0b_v128 : Ref sig .tc := ⟨.hbm, 213, rfl⟩
abbrev main_while0b_v129 : Ref sig .tc := ⟨.hbm, 214, rfl⟩
abbrev main_while0b_v130 : Ref sig .tc := ⟨.hbm, 215, rfl⟩
abbrev main_while0b_call13_v0 : Ref sig .tc := ⟨.hbm, 216, rfl⟩
abbrev main_while0b_call13_c : Ref sig .tc := ⟨.hbm, 217, rfl⟩
abbrev main_while0b_call13_c_0 : Ref sig .tc := ⟨.hbm, 218, rfl⟩
abbrev main_while0b_v131 : Ref sig .tc := ⟨.hbm, 219, rfl⟩
abbrev main_while0b_call14_v0 : Ref sig .tc := ⟨.hbm, 220, rfl⟩
abbrev main_while0b_call14_c : Ref sig .tc := ⟨.hbm, 221, rfl⟩
abbrev main_while0b_call14_c_0 : Ref sig .tc := ⟨.hbm, 222, rfl⟩
abbrev main_while0b_v132 : Ref sig .tc := ⟨.hbm, 223, rfl⟩
abbrev main_while0b_c_14 : Ref sig .tc := ⟨.hbm, 224, rfl⟩
abbrev main_while0b_v133 : Ref sig .tc := ⟨.hbm, 225, rfl⟩
abbrev main_v101 : Ref sig .tc := ⟨.hbm, 226, rfl⟩
abbrev main_v102 : Ref sig .tc := ⟨.hbm, 227, rfl⟩
abbrev main_v103 : Ref sig .tc := ⟨.hbm, 228, rfl⟩
abbrev main_v104 : Ref sig .tc := ⟨.hbm, 229, rfl⟩
abbrev main_v105 : Ref sig .tc := ⟨.hbm, 230, rfl⟩
abbrev main_call15_v0 : Ref sig .tc := ⟨.hbm, 231, rfl⟩
abbrev main_call15_v1 : Ref sig .tc := ⟨.hbm, 232, rfl⟩
abbrev main_call15_cst : Ref sig .tc := ⟨.hbm, 233, rfl⟩
abbrev main_call15_v2 : Ref sig .tc := ⟨.hbm, 234, rfl⟩
abbrev main_call15_v3 : Ref sig .tc := ⟨.hbm, 235, rfl⟩
abbrev main_call15_cst_0 : Ref sig .tc := ⟨.hbm, 236, rfl⟩
abbrev main_call15_v4 : Ref sig .tc := ⟨.hbm, 237, rfl⟩
abbrev main_call15_v5 : Ref sig .tc := ⟨.hbm, 238, rfl⟩
abbrev main_v106 : Ref sig .tc := ⟨.hbm, 239, rfl⟩
abbrev main_v107 : Ref sig .tc := ⟨.hbm, 240, rfl⟩
abbrev main_v108 : Ref sig .tc := ⟨.hbm, 241, rfl⟩
abbrev main_v109 : Ref sig .tc := ⟨.hbm, 242, rfl⟩
abbrev main_v110 : Ref sig .tc := ⟨.hbm, 243, rfl⟩
abbrev main_v111 : Ref sig .tc := ⟨.hbm, 244, rfl⟩
abbrev main_v112 : Ref sig .tc := ⟨.hbm, 245, rfl⟩
abbrev main_v113 : Ref sig .tc := ⟨.hbm, 246, rfl⟩
abbrev main_call16_v0 : Ref sig .tc := ⟨.hbm, 247, rfl⟩
abbrev main_call16_v1 : Ref sig .tc := ⟨.hbm, 248, rfl⟩
abbrev main_call16_cst : Ref sig .tc := ⟨.hbm, 249, rfl⟩
abbrev main_call16_v2 : Ref sig .tc := ⟨.hbm, 250, rfl⟩
abbrev main_call16_v3 : Ref sig .tc := ⟨.hbm, 251, rfl⟩
abbrev main_call16_cst_0 : Ref sig .tc := ⟨.hbm, 252, rfl⟩
abbrev main_call16_v4 : Ref sig .tc := ⟨.hbm, 253, rfl⟩
abbrev main_call16_v5 : Ref sig .tc := ⟨.hbm, 254, rfl⟩
abbrev main_v114 : Ref sig .tc := ⟨.hbm, 255, rfl⟩
abbrev main_v115 : Ref sig .tc := ⟨.hbm, 256, rfl⟩
abbrev main_v116 : Ref sig .tc := ⟨.hbm, 257, rfl⟩
abbrev main_v117 : Ref sig .tc := ⟨.hbm, 258, rfl⟩
abbrev main_v118 : Ref sig .tc := ⟨.hbm, 259, rfl⟩

abbrev nD : Nat := 1
abbrev τ : Topo := Topo.v7x

variable {F : FTy → Type} [FloatOps F]

abbrev main_while0_count : Scf.Loop 32 := ⟨0#32, 2048#32, 1#32⟩
-- ==== Proof.Scan.lean ====
module

public import Idealize.ShloMosaic.Lib.Pointwise

/-!
# The linear recurrence and its doubling scan

A sequence of steps `h ↦ a t * h + b t` over the extended reals.  `winA a n t` and `winB a b n t`
are the multiplier and the offset of the `n` steps that end at position `t`.  The doubling scan
(each pass combines a position with the one `k` to its left, inside segments of `m` positions)
computes these windows; two levels of it give the sequential recurrence.
-/

@[expose] public section

namespace Cert.Scan

/-- The product of the multipliers of the `n` steps ending at position `t`. -/
noncomputable def winA (a : ℕ → EReal) : ℕ → ℕ → EReal
  | 0, _ => 1
  | n + 1, t => a t * winA a n (t - 1)

/-- What the `n` steps ending at position `t` make of the state zero. -/
noncomputable def winB (a b : ℕ → EReal) : ℕ → ℕ → EReal
  | 0, _ => 0
  | n + 1, t => a t * winB a b n (t - 1) + b t

/-- The last step of a window, on the offset. -/
theorem winB_succ (a b : ℕ → EReal) (n t : ℕ) :
    winB a b (n + 1) t = a t * winB a b n (t - 1) + b t := rfl

/-- The state before step `t` of the recurrence started at zero. -/
noncomputable def state (a b : ℕ → EReal) : ℕ → EReal
  | 0 => 0
  | t + 1 => a t * state a b t + b t

/-- One doubling pass on the multipliers: inside each segment of `m` positions, combine with the
multiplier `k` to the left where there is one. -/
noncomputable def passA (m k : ℕ) (a : ℕ → EReal) (s : ℕ) : EReal :=
  if s % m < k then a s else a s * a (s - k)

/-- One doubling pass on the offsets. -/
noncomputable def passB (m k : ℕ) (a b : ℕ → EReal) (s : ℕ) : EReal :=
  if s % m < k then b s else a s * b (s - k) + b s

/-- Multipliers of consecutive windows multiply. -/
theorem winA_add (a : ℕ → EReal) (n : ℕ) :
    ∀ m t, winA a (m + n) t = winA a m t * winA a n (t - m)
  | 0, t => by simp [winA]
  | m + 1, t => by
      rw [Nat.add_right_comm]
      simp only [winA]
      rw [winA_add a n m, mul_assoc, Nat.sub_sub, Nat.add_comm 1 m]

/-- Offsets of consecutive windows compose, when no multiplier is negative or infinite. -/
theorem winB_add (a b : ℕ → EReal) (ha : ∀ t, 0 ≤ a t ∧ a t ≠ ⊤) (n : ℕ) :
    ∀ m t, winB a b (m + n) t = winA a m t * winB a b n (t - m) + winB a b m t
  | 0, t => by simp [winA, winB]
  | m + 1, t => by
      rw [Nat.add_right_comm]
      simp only [winA, winB]
      rw [winB_add a b ha n m, EReal.left_distrib_of_nonneg_of_ne_top (ha t).1 (ha t).2,
        mul_assoc, Nat.sub_sub, Nat.add_comm 1 m, add_assoc]

/-- The window of all steps up to `t` is the sequential state after step `t`. -/
theorem winB_all (a b : ℕ → EReal) : ∀ t, winB a b t (t - 1) = state a b t
  | 0 => rfl
  | t + 1 => by
      simp only [winB, state, Nat.add_sub_cancel]
      rw [winB_all a b t]

/-- `p` and `q` hold the windows of at most `k` steps that stay inside the segment of `m`
positions. -/
def Holds (a b : ℕ → EReal) (m k : ℕ) (p q : ℕ → EReal) : Prop :=
  ∀ s, p s = winA a (min (s % m + 1) k) s ∧ q s = winB a b (min (s % m + 1) k) s

/-- The sequences themselves are the windows of one step. -/
theorem Holds.one (a b : ℕ → EReal) (m : ℕ) : Holds a b m 1 a b := fun s => by
  have h : min (s % m + 1) 1 = 0 + 1 := by omega
  rw [h]; simp [winA, winB]

/-- A doubling pass takes windows of at most `k` steps to windows of at most `2 * k`. -/
theorem Holds.pass {a b : ℕ → EReal} (ha : ∀ t, 0 ≤ a t ∧ a t ≠ ⊤) {m k : ℕ} {p q : ℕ → EReal}
    (h : Holds a b m k p q) : Holds a b m (k + k) (passA m k p) (passB m k p q) := fun s => by
  simp only [passA, passB]
  by_cases hs : s % m < k
  · have e : min (s % m + 1) (k + k) = min (s % m + 1) k := by omega
    rw [if_pos hs, if_pos hs, e]; exact h s
  · rw [if_neg hs, if_neg hs]
    have hm : (s - k) % m = s % m - k := by
      rcases Nat.eq_zero_or_pos m with rfl | hm
      · simp
      have h1 := Nat.div_add_mod s m
      have h2 : s - k = m * (s / m) + (s % m - k) := by omega
      rw [h2, Nat.mul_add_mod, Nat.mod_eq_of_lt]
      have := Nat.mod_lt s hm
      omega
    have e1 : min (s % m + 1) k = k := by omega
    have e2 : min (s % m + 1) (k + k) = k + min ((s - k) % m + 1) k := by omega
    rw [(h s).1, (h s).2, (h (s - k)).1, (h (s - k)).2, e1, e2, winA_add, winB_add _ _ ha]
    exact ⟨rfl, rfl⟩

/-- Windows over whole chunks of 32 steps, taken at the chunk ends, are windows over steps. -/
theorem winB_chunk (a b : ℕ → EReal) (ha : ∀ t, 0 ≤ a t ∧ a t ≠ ⊤) (ea eb : ℕ → EReal)
    (hea : ∀ c, ea c = winA a 32 (32 * c + 31)) (heb : ∀ c, eb c = winB a b 32 (32 * c + 31)) :
    ∀ n c, n ≤ c + 1 → winB ea eb n c = winB a b (32 * n) (32 * c + 31)
  | 0, c, _ => rfl
  | n + 1, c, h => by
      have e : 32 * (n + 1) = 32 + 32 * n := by ring
      rw [e, winB_add a b ha, winB_succ, hea, heb]
      rcases Nat.eq_zero_or_pos c with rfl | hc
      · obtain rfl : n = 0 := by omega
        have e0 : ∀ t, winB a b (32 * 0) t = 0 := fun t => rfl
        have e1 : ∀ t, winB ea eb 0 t = 0 := fun t => rfl
        rw [e0, e1, mul_zero, mul_zero]
      · rw [winB_chunk a b ha ea eb hea heb n (c - 1) (by omega)]
        have e' : 32 * c + 31 - 32 = 32 * (c - 1) + 31 := by omega
        rw [e']

/-- The window multiplier of nonnegative finite steps, as such again. -/
theorem winA_bounds (a : ℕ → EReal) (ha : ∀ t, 0 ≤ a t ∧ a t ≤ 1) :
    ∀ n t, 0 ≤ winA a n t ∧ winA a n t ≤ 1
  | 0, t => by simp [winA]
  | n + 1, t => by
      simp only [winA]
      obtain ⟨h1, h2⟩ := winA_bounds a ha n (t - 1)
      refine ⟨mul_nonneg (ha t).1 h1, ?_⟩
      calc a t * winA a n (t - 1) ≤ a t * 1 := mul_le_mul_of_nonneg_left h2 (ha t).1
        _ ≤ 1 := by rw [mul_one]; exact (ha t).2

/-- The five passes inside a chunk on the multipliers. -/
noncomputable def inA (a : ℕ → EReal) : ℕ → EReal :=
  passA 32 16 (passA 32 8 (passA 32 4 (passA 32 2 (passA 32 1 a))))

/-- The five passes inside a chunk on the offsets. -/
noncomputable def inB (a b : ℕ → EReal) : ℕ → EReal :=
  passB 32 16 (passA 32 8 (passA 32 4 (passA 32 2 (passA 32 1 a))))
    (passB 32 8 (passA 32 4 (passA 32 2 (passA 32 1 a)))
      (passB 32 4 (passA 32 2 (passA 32 1 a))
        (passB 32 2 (passA 32 1 a) (passB 32 1 a b))))

/-- The six passes over the 64 chunk ends, on the offsets. -/
noncomputable def acrossB (a b : ℕ → EReal) : ℕ → EReal :=
  passB 64 32 (passA 64 16 (passA 64 8 (passA 64 4 (passA 64 2 (passA 64 1 a)))))
    (passB 64 16 (passA 64 8 (passA 64 4 (passA 64 2 (passA 64 1 a))))
      (passB 64 8 (passA 64 4 (passA 64 2 (passA 64 1 a)))
        (passB 64 4 (passA 64 2 (passA 64 1 a))
          (passB 64 2 (passA 64 1 a) (passB 64 1 a b)))))

/-- The state that enters chunk `c`: nothing for the first, the previous chunk's end otherwise. -/
noncomputable def enter (e : ℕ → EReal) (c : ℕ) : EReal := if c < 1 then 0 else e (c - 1)

/-- The two-level scan: inside the chunks, across their ends, and the two put together. -/
noncomputable def scan (a b : ℕ → EReal) (s : ℕ) : EReal :=
  inB a b s + inA a s *
    enter (acrossB (fun c => inA a (32 * c + 31)) (fun c => inB a b (32 * c + 31))) (s / 32)

/-- The two-level scan over 64 chunks of 32 steps is the sequential recurrence. -/
theorem scan_eq (a b : ℕ → EReal) (ha : ∀ t, 0 ≤ a t ∧ a t ≤ 1) (s : ℕ) (hs : s < 2048) :
    scan a b s = state a b (s + 1) := by
  have hfin : ∀ t, 0 ≤ a t ∧ a t ≠ ⊤ := fun t =>
    ⟨(ha t).1, fun h => absurd (h ▸ (ha t).2) (by decide)⟩
  have hin : Holds a b 32 32 (inA a) (inB a b) :=
    ((((Holds.one a b 32).pass hfin).pass hfin).pass hfin).pass hfin |>.pass hfin
  have e31 : ∀ c, min ((32 * c + 31) % 32 + 1) 32 = 32 := fun c => by omega
  have hea : ∀ c, inA a (32 * c + 31) = winA a 32 (32 * c + 31) := fun c => by
    rw [(hin _).1, e31]
  have heb : ∀ c, inB a b (32 * c + 31) = winB a b 32 (32 * c + 31) := fun c => by
    rw [(hin _).2, e31]
  have hfe : ∀ c, 0 ≤ inA a (32 * c + 31) ∧ inA a (32 * c + 31) ≠ ⊤ := fun c => by
    rw [hea]
    have := winA_bounds a ha 32 (32 * c + 31)
    exact ⟨this.1, fun h => absurd (h ▸ this.2) (by decide)⟩
  have hac : Holds (fun c => inA a (32 * c + 31)) (fun c => inB a b (32 * c + 31)) 64 64 _
      (acrossB (fun c => inA a (32 * c + 31)) (fun c => inB a b (32 * c + 31))) :=
    (((((Holds.one _ _ 64).pass hfe).pass hfe).pass hfe).pass hfe).pass hfe |>.pass hfe
  have e32 : min (s % 32 + 1) 32 = s % 32 + 1 := by omega
  have key : enter (acrossB (fun c => inA a (32 * c + 31)) (fun c => inB a b (32 * c + 31)))
      (s / 32) = winB a b (32 * (s / 32)) (s - (s % 32 + 1)) := by
    unfold enter
    by_cases h0 : s / 32 < 1
    · have : s / 32 = 0 := by omega
      rw [if_pos h0, this]; rfl
    · rw [if_neg h0, (hac _).2]
      have e1 : min ((s / 32 - 1) % 64 + 1) 64 = s / 32 := by omega
      rw [e1, winB_chunk a b hfin _ _ hea heb _ _ (by omega)]
      congr 1; omega
  rw [scan, key, (hin s).1, (hin s).2, e32, add_comm, ← winB_add a b hfin, ← winB_all]
  congr 1; omega

/-- A sequence of 2048 steps, continued by zero. -/
noncomputable def upTo (f : Fin 2048 → EReal) (s : ℕ) : EReal := if h : s < 2048 then f ⟨s, h⟩ else 0

open Idealize.ShloMosaic in
/-- The exponential is nowhere negative. -/
theorem exp_nonneg (x : EReal) : 0 ≤ Ideal.exp x := by
  induction x using EReal.rec with
  | bot => exact le_rfl
  | top => exact le_top
  | coe r => exact EReal.coe_nonneg.2 (Real.exp_pos r).le

open Idealize.ShloMosaic in
/-- The exponential of something not positive is at most one. -/
theorem exp_le_one {x : EReal} (hx : x ≤ 0) : Ideal.exp x ≤ 1 := by
  induction x using EReal.rec with
  | bot => exact zero_le_one
  | top => exact absurd hx (by decide)
  | coe r =>
    have : Real.exp r ≤ 1 := Real.exp_le_one_iff.2 (EReal.coe_nonpos.1 hx)
    exact EReal.coe_le_coe_iff.2 this

open Idealize.ShloMosaic in
/-- A step's multiplier `exp (d * -exp a)` with `d` not negative lies between zero and one. -/
theorem exp_step_bounds {d : EReal} (hd : 0 ≤ d) (a : EReal) :
    0 ≤ Ideal.exp (d * (0 - Ideal.exp a)) ∧ Ideal.exp (d * (0 - Ideal.exp a)) ≤ 1 := by
  refine ⟨exp_nonneg _, exp_le_one ?_⟩
  rw [zero_sub, mul_neg]
  exact EReal.neg_le_zero.2 (mul_nonneg hd (exp_nonneg a))

open Idealize.ShloMosaic in
/-- `max v 0 + log (1 + e)` with `e` an exponential is not negative. -/
theorem softplus_nonneg (v w : EReal) : 0 ≤ max v 0 + Ideal.log1p (Ideal.exp w) := by
  refine add_nonneg (le_max_right _ _) ?_
  have key : ∀ r : ℝ, 0 ≤ r → (0 : EReal) ≤ Ideal.log1p (r : EReal) := by
    intro r hr
    have e : (1 : EReal) + (r : EReal) = ((1 + r : ℝ) : EReal) := by
      rw [EReal.coe_add]; rfl
    unfold Ideal.log1p
    rw [e]
    show (0 : EReal) ≤ if 1 + r ≤ 0 then ⊥ else (Real.log (1 + r) : EReal)
    rw [if_neg (by linarith)]
    exact EReal.coe_nonneg.2 (Real.log_nonneg (by linarith))
  induction w using EReal.rec with
  | bot => exact key 0 le_rfl
  | top =>
    have e : (1 : EReal) + ⊤ = ⊤ := EReal.coe_add_top 1
    show (0 : EReal) ≤ Ideal.log (1 + ⊤)
    rw [e]; exact le_top
  | coe r => exact key _ (Real.exp_pos r).le

end Cert.Scan
-- ==== Proof.Block.lean ====
module

public import proofs.«01_k».proof.Proof.Scan

/-!
# One direction of the block, as mathematics

What one direction computes from a sequence of 2048 rows of 256 channels and its weights: an input
projection, a two-tap causal convolution with a gate, the projections to step size, input and output
coefficients, sixteen linear recurrences per channel, the skip term, the output gate and projection.
Every function gives the value at a step and a channel over the extended reals.
-/

@[expose] public section

open Idealize.ShloMosaic Cert.Scan

namespace Cert.Mamba

/-- The weights of one direction, each by the indices of the argument that holds it. -/
structure Weights where
  /-- The input projection. -/
  inw : Fin 512 → Fin 256 → EReal
  /-- The tap on the previous step. -/
  w0 : Fin 256 → EReal
  /-- The tap on the step itself. -/
  w1 : Fin 256 → EReal
  /-- The convolution's bias. -/
  cb : Fin 256 → EReal
  /-- The projection to step size and coefficients. -/
  xw : Fin 48 → Fin 256 → EReal
  /-- The step size's second projection. -/
  dw : Fin 256 → Fin 16 → EReal
  /-- The step size's bias. -/
  db : Fin 256 → EReal
  /-- The logarithms of the decay rates. -/
  al : Fin 256 → Fin 16 → EReal
  /-- The skip weights. -/
  skip : Fin 256 → EReal
  /-- The output projection. -/
  ow : Fin 256 → Fin 256 → EReal

/-- `x * sigmoid x`. -/
noncomputable def silu (v : EReal) : EReal := v * Ideal.logistic v

/-- `log (1 + exp v)`, in the form that does not overflow. -/
noncomputable def softplus (v : EReal) : EReal :=
  max v 0 + Ideal.log1p (Ideal.exp (-(FloatOps.absf (F := Ideal) (φ := .f32) v : EReal)))

/-- The step counted from the other end. -/
def back (t : Fin 2048) : Fin 2048 := ⟨2047 - t.val, by omega⟩

theorem back_back (t : Fin 2048) : back (back t) = t := Fin.ext (by simp only [back]; omega)

variable (w : Weights) (X : Fin 2048 → Fin 256 → EReal)

/-- The input projection. -/
noncomputable def proj (t : Fin 2048) (e : Fin 512) : EReal := ∑ d, X t d * w.inw e d

/-- The first half of the projection, one step earlier (zero before the first step). -/
noncomputable def prev (t : Fin 2048) (j : Fin 256) : EReal :=
  if t.val < 1 then 0 else proj w X ⟨t.val - 1, by omega⟩ ⟨j.val, by omega⟩

/-- The gated convolution. -/
noncomputable def xc (t : Fin 2048) (j : Fin 256) : EReal :=
  silu (prev w X t j * w.w0 j + proj w X t ⟨j.val, by omega⟩ * w.w1 j + w.cb j)

/-- Step size code, input coefficients and output coefficients, side by side. -/
noncomputable def dbc (t : Fin 2048) (k : Fin 48) : EReal := ∑ d, xc w X t d * w.xw k d

/-- The step size. -/
noncomputable def dt (t : Fin 2048) (j : Fin 256) : EReal :=
  softplus ((∑ r : Fin 16, dbc w X t ⟨r.val, by omega⟩ * w.dw j r) + w.db j)

/-- The multiplier of state `n`. -/
noncomputable def decay (j : Fin 256) (n : Fin 16) (t : Fin 2048) : EReal :=
  Ideal.exp (dt w X t j * -Ideal.exp (w.al j n))

/-- The offset of state `n`. -/
noncomputable def drive (j : Fin 256) (n : Fin 16) (t : Fin 2048) : EReal :=
  dt w X t j * xc w X t j * dbc w X t ⟨16 + n.val, by omega⟩

/-- State `n` after step `t`. -/
noncomputable def latent (j : Fin 256) (n : Fin 16) (t : Fin 2048) : EReal :=
  state (upTo (decay w X j n)) (upTo (drive w X j n)) (t.val + 1)

/-- The states read out and summed. -/
noncomputable def mix (t : Fin 2048) (j : Fin 256) : EReal :=
  ∑ n : Fin 16, dbc w X t ⟨32 + n.val, by omega⟩ * latent w X j n t

/-- Skip term and gate. -/
noncomputable def gated (t : Fin 2048) (j : Fin 256) : EReal :=
  (mix w X t j + w.skip j * xc w X t j) * silu (proj w X t ⟨256 + j.val, by omega⟩)

/-- The direction's output. -/
noncomputable def out (t : Fin 2048) (i : Fin 256) : EReal := ∑ j, gated w X t j * w.ow i j

/-- Both directions: the second one on the reversed sequence, read back in order. -/
noncomputable def both (f r : Weights) (t : Fin 2048) (i : Fin 256) : EReal :=
  out f X t i + out r (fun t => X (back t)) (back t) i

/-- One direction's weights, from the arrays that hold them. -/
def Weights.ofArrays (inw : FVec Ideal ⟨2, ![512, 256]⟩ .f32) (cw : FVec Ideal ⟨2, ![256, 2]⟩ .f32)
    (cb : FVec Ideal ⟨1, ![256]⟩ .f32) (xw : FVec Ideal ⟨2, ![48, 256]⟩ .f32)
    (dw : FVec Ideal ⟨2, ![256, 16]⟩ .f32) (db : FVec Ideal ⟨1, ![256]⟩ .f32)
    (al : FVec Ideal ⟨2, ![256, 16]⟩ .f32) (skip : FVec Ideal ⟨1, ![256]⟩ .f32)
    (ow : FVec Ideal ⟨2, ![256, 256]⟩ .f32) : Weights where
  inw e d := inw (ix2 e d)
  w0 j := cw (ix2 j 0)
  w1 j := cw (ix2 j 1)
  cb j := cb (ix1 j)
  xw k d := xw (ix2 k d)
  dw j r := dw (ix2 j r)
  db j := db (ix1 j)
  al j n := al (ix2 j n)
  skip j := skip (ix1 j)
  ow i j := ow (ix2 i j)

/-- The whole result: both directions on every sequence of the batch. -/
noncomputable def answer (x : FVec Ideal ⟨3, ![4, 2048, 256]⟩ .f32) (f r : Weights) :
    FVec Ideal ⟨3, ![4, 2048, 256]⟩ .f32 :=
  fun i => both (fun t d => x (ix3 (i 0) t d)) f r (i 1) (i 2)

end Cert.Mamba
-- ==== Proof.Passes.lean ====
module

public import proofs.«01_k».proof.Proof.Scan

/-!
# A doubling pass on the kernel's blocks

The kernel lays the 2048 steps of a sequence out as 64 chunks of 32 and runs one doubling pass by
slicing a block, combining the slices and gluing the result to the part that stays.  The lemmas
here say, for one lane, that such a glued block is the pass of `Scan` on the flat sequence of that
lane, in the forward order (`col`, `ends`) and in the reverse order (`colR`, `endsR`).
-/

@[expose] public section

set_option maxRecDepth 16384

open Idealize.ShloMosaic

namespace Cert.Scan

/-- Lane `l` of a block of 64 chunks of 32 steps, as a sequence (zero after its end). -/
noncomputable def col (x : FVec Ideal ⟨3, ![64, 32, 512]⟩ .f32) (l : Fin 512) (s : ℕ) : EReal :=
  if h : s < 2048 then x (ix3 ⟨s / 32, by omega⟩ ⟨s % 32, by omega⟩ l) else 0

/-- The same lane read from its last step to its first. -/
noncomputable def colR (x : FVec Ideal ⟨3, ![64, 32, 512]⟩ .f32) (l : Fin 512) (s : ℕ) : EReal :=
  if h : s < 2048 then x (ix3 ⟨63 - s / 32, by omega⟩ ⟨31 - s % 32, by omega⟩ l) else 0

/-- Lane `l` of one row per chunk, as a sequence (zero after its end). -/
noncomputable def ends (x : FVec Ideal ⟨2, ![64, 512]⟩ .f32) (l : Fin 512) (c : ℕ) : EReal :=
  if h : c < 64 then x (ix2 ⟨c, h⟩ l) else 0

/-- The same lane read from the last chunk to the first. -/
noncomputable def endsR (x : FVec Ideal ⟨2, ![64, 512]⟩ .f32) (l : Fin 512) (c : ℕ) : EReal :=
  if h : c < 64 then x (ix2 ⟨63 - c, by omega⟩ l) else 0

/-- Reading at two indices with equal coordinates. -/
theorem ix3_congr {α : Type} {n₀ n₁ n₂ : ℕ} (x : (⟨3, ![n₀, n₁, n₂]⟩ : Shape).Idx → α)
    {a a' : Fin n₀} {b b' : Fin n₁} {c c' : Fin n₂} (ha : a.val = a'.val) (hb : b.val = b'.val)
    (hc : c.val = c'.val) : x (ix3 a b c) = x (ix3 a' b' c') := by
  rw [Fin.ext ha, Fin.ext hb, Fin.ext hc]

/-- Reading at two indices with equal coordinates. -/
theorem ix2_congr {α : Type} {n₀ n₁ : ℕ} (x : (⟨2, ![n₀, n₁]⟩ : Shape).Idx → α)
    {a a' : Fin n₀} {b b' : Fin n₁} (ha : a.val = a'.val) (hb : b.val = b'.val) :
    x (ix2 a b) = x (ix2 a' b') := by
  rw [Fin.ext ha, Fin.ext hb]

/-- Forward, inside the chunks: the glued offsets are the pass on the offsets. -/
theorem col_glueB {k r : ℕ} (p x : FVec Ideal ⟨3, ![64, 32, 512]⟩ .f32)
    (h₁ h₂ h₃ h₄ hc) (hk : k + r = 32) (l : Fin 512) :
    col (concatenate ⟨3, ![64, 32, 512]⟩ 1
      [⟨⟨3, ![64, k, 512]⟩, extractStridedSlice ⟨3, ![64, k, 512]⟩ ![0, 0, 0] x h₁⟩,
       ⟨⟨3, ![64, r, 512]⟩, addf (mulf (extractStridedSlice ⟨3, ![64, r, 512]⟩ ![0, k, 0] p h₂)
          (extractStridedSlice ⟨3, ![64, r, 512]⟩ ![0, 0, 0] x h₃))
          (extractStridedSlice ⟨3, ![64, r, 512]⟩ ![0, k, 0] x h₄)⟩] hc) l
      = passB 32 k (col p l) (col x l) := by
  funext s
  unfold col passB
  by_cases hs : s < 2048
  · have hs' : s - k < 2048 := by omega
    simp only [dif_pos hs, dif_pos hs']
    pointwise
    by_cases ht : s % 32 < k
    · rw [dif_pos ht, if_pos ht]
      refine ix3_congr _ ?_ ?_ ?_ <;> simp [Shape.Idx.norm_def] <;> omega
    · rw [dif_neg ht, if_neg ht]
      congr 1
      · congr 1 <;> (refine ix3_congr _ ?_ ?_ ?_ <;> simp [Shape.Idx.norm_def] <;> omega)
      · (refine ix3_congr _ ?_ ?_ ?_ <;> simp [Shape.Idx.norm_def] <;> omega)
  · simp [hs]

/-- Forward, inside the chunks: the glued multipliers are the pass on the multipliers. -/
theorem col_glueA {k r : ℕ} (x : FVec Ideal ⟨3, ![64, 32, 512]⟩ .f32)
    (h₁ h₂ h₃ hc) (hk : k + r = 32) (l : Fin 512) :
    col (concatenate ⟨3, ![64, 32, 512]⟩ 1
      [⟨⟨3, ![64, k, 512]⟩, extractStridedSlice ⟨3, ![64, k, 512]⟩ ![0, 0, 0] x h₁⟩,
       ⟨⟨3, ![64, r, 512]⟩, mulf (extractStridedSlice ⟨3, ![64, r, 512]⟩ ![0, k, 0] x h₂)
          (extractStridedSlice ⟨3, ![64, r, 512]⟩ ![0, 0, 0] x h₃)⟩] hc) l
      = passA 32 k (col x l) := by
  funext s
  unfold col passA
  by_cases hs : s < 2048
  · have hs' : s - k < 2048 := by omega
    simp only [dif_pos hs, dif_pos hs']
    pointwise
    by_cases ht : s % 32 < k
    · rw [dif_pos ht, if_pos ht]
      refine ix3_congr _ ?_ ?_ ?_ <;> simp [Shape.Idx.norm_def] <;> omega
    · rw [dif_neg ht, if_neg ht]
      congr 1 <;> (refine ix3_congr _ ?_ ?_ ?_ <;> simp [Shape.Idx.norm_def] <;> omega)
  · simp [hs]

/-- Reverse, inside the chunks: the glued offsets are the pass on the offsets. -/
theorem colR_glueB {k r : ℕ} (p x : FVec Ideal ⟨3, ![64, 32, 512]⟩ .f32)
    (h₁ h₂ h₃ h₄ hc) (hk : k + r = 32) (l : Fin 512) :
    colR (concatenate ⟨3, ![64, 32, 512]⟩ 1
      [⟨⟨3, ![64, r, 512]⟩, addf (mulf (extractStridedSlice ⟨3, ![64, r, 512]⟩ ![0, 0, 0] p h₂)
          (extractStridedSlice ⟨3, ![64, r, 512]⟩ ![0, k, 0] x h₃))
          (extractStridedSlice ⟨3, ![64, r, 512]⟩ ![0, 0, 0] x h₄)⟩,
       ⟨⟨3, ![64, k, 512]⟩, extractStridedSlice ⟨3, ![64, k, 512]⟩ ![0, r, 0] x h₁⟩] hc) l
      = passB 32 k (colR p l) (colR x l) := by
  funext s
  unfold colR passB
  by_cases hs : s < 2048
  · have hs' : s - k < 2048 := by omega
    simp only [dif_pos hs, dif_pos hs']
    pointwise
    by_cases ht : s % 32 < k
    · rw [dif_neg (by omega), if_pos ht]
      refine ix3_congr _ ?_ ?_ ?_ <;> simp [Shape.Idx.norm_def] <;> omega
    · rw [dif_pos (by omega), if_neg ht]
      congr 1
      · congr 1 <;> (refine ix3_congr _ ?_ ?_ ?_ <;> simp [Shape.Idx.norm_def] <;> omega)
  · simp [hs]

/-- Reverse, inside the chunks: the glued multipliers are the pass on the multipliers. -/
theorem colR_glueA {k r : ℕ} (x : FVec Ideal ⟨3, ![64, 32, 512]⟩ .f32)
    (h₁ h₂ h₃ hc) (hk : k + r = 32) (l : Fin 512) :
    colR (concatenate ⟨3, ![64, 32, 512]⟩ 1
      [⟨⟨3, ![64, r, 512]⟩, mulf (extractStridedSlice ⟨3, ![64, r, 512]⟩ ![0, 0, 0] x h₂)
          (extractStridedSlice ⟨3, ![64, r, 512]⟩ ![0, k, 0] x h₃)⟩,
       ⟨⟨3, ![64, k, 512]⟩, extractStridedSlice ⟨3, ![64, k, 512]⟩ ![0, r, 0] x h₁⟩] hc) l
      = passA 32 k (colR x l) := by
  funext s
  unfold colR passA
  by_cases hs : s < 2048
  · have hs' : s - k < 2048 := by omega
    simp only [dif_pos hs, dif_pos hs']
    pointwise
    by_cases ht : s % 32 < k
    · rw [dif_neg (by omega), if_pos ht]
      refine ix3_congr _ ?_ ?_ ?_ <;> simp [Shape.Idx.norm_def] <;> omega
    · rw [dif_pos (by omega), if_neg ht]
      congr 1 <;> (refine ix3_congr _ ?_ ?_ ?_ <;> simp [Shape.Idx.norm_def] <;> omega)
  · simp [hs]

/-- Forward, across the chunk ends: the glued offsets are the pass on the offsets. -/
theorem ends_glueB {k r : ℕ} (p x : FVec Ideal ⟨2, ![64, 512]⟩ .f32)
    (h₁ h₂ h₃ h₄ hc) (hk : k + r = 64) (l : Fin 512) :
    ends (concatenate ⟨2, ![64, 512]⟩ 0
      [⟨⟨2, ![k, 512]⟩, extractStridedSlice ⟨2, ![k, 512]⟩ ![0, 0] x h₁⟩,
       ⟨⟨2, ![r, 512]⟩, addf (mulf (extractStridedSlice ⟨2, ![r, 512]⟩ ![k, 0] p h₂)
          (extractStridedSlice ⟨2, ![r, 512]⟩ ![0, 0] x h₃))
          (extractStridedSlice ⟨2, ![r, 512]⟩ ![k, 0] x h₄)⟩] hc) l
      = passB 64 k (ends p l) (ends x l) := by
  funext s
  unfold ends passB
  by_cases hs : s < 64
  · have hs' : s - k < 64 := by omega
    simp only [dif_pos hs, dif_pos hs']
    pointwise
    by_cases ht : s % 64 < k
    · rw [dif_pos (by omega), if_pos ht]
      refine ix2_congr _ ?_ ?_ <;> simp [Shape.Idx.norm_def] <;> omega
    · rw [dif_neg (by omega), if_neg ht]
      congr 1
      · congr 1 <;> (refine ix2_congr _ ?_ ?_ <;> simp [Shape.Idx.norm_def] <;> omega)
      · (refine ix2_congr _ ?_ ?_ <;> simp [Shape.Idx.norm_def] <;> omega)
  · simp [hs]

/-- Forward, across the chunk ends: the glued multipliers are the pass on the multipliers. -/
theorem ends_glueA {k r : ℕ} (x : FVec Ideal ⟨2, ![64, 512]⟩ .f32)
    (h₁ h₂ h₃ hc) (hk : k + r = 64) (l : Fin 512) :
    ends (concatenate ⟨2, ![64, 512]⟩ 0
      [⟨⟨2, ![k, 512]⟩, extractStridedSlice ⟨2, ![k, 512]⟩ ![0, 0] x h₁⟩,
       ⟨⟨2, ![r, 512]⟩, mulf (extractStridedSlice ⟨2, ![r, 512]⟩ ![k, 0] x h₂)
          (extractStridedSlice ⟨2, ![r, 512]⟩ ![0, 0] x h₃)⟩] hc) l
      = passA 64 k (ends x l) := by
  funext s
  unfold ends passA
  by_cases hs : s < 64
  · have hs' : s - k < 64 := by omega
    simp only [dif_pos hs, dif_pos hs']
    pointwise
    by_cases ht : s % 64 < k
    · rw [dif_pos (by omega), if_pos ht]
      refine ix2_congr _ ?_ ?_ <;> simp [Shape.Idx.norm_def] <;> omega
    · rw [dif_neg (by omega), if_neg ht]
      congr 1 <;> (refine ix2_congr _ ?_ ?_ <;> simp [Shape.Idx.norm_def] <;> omega)
  · simp [hs]

/-- Reverse, across the chunk ends: the glued offsets are the pass on the offsets. -/
theorem endsR_glueB {k r : ℕ} (p x : FVec Ideal ⟨2, ![64, 512]⟩ .f32)
    (h₁ h₂ h₃ h₄ hc) (hk : k + r = 64) (l : Fin 512) :
    endsR (concatenate ⟨2, ![64, 512]⟩ 0
      [⟨⟨2, ![r, 512]⟩, addf (mulf (extractStridedSlice ⟨2, ![r, 512]⟩ ![0, 0] p h₂)
          (extractStridedSlice ⟨2, ![r, 512]⟩ ![k, 0] x h₃))
          (extractStridedSlice ⟨2, ![r, 512]⟩ ![0, 0] x h₄)⟩,
       ⟨⟨2, ![k, 512]⟩, extractStridedSlice ⟨2, ![k, 512]⟩ ![r, 0] x h₁⟩] hc) l
      = passB 64 k (endsR p l) (endsR x l) := by
  funext s
  unfold endsR passB
  by_cases hs : s < 64
  · have hs' : s - k < 64 := by omega
    simp only [dif_pos hs, dif_pos hs']
    pointwise
    by_cases ht : s % 64 < k
    · rw [dif_neg (by omega), if_pos ht]
      refine ix2_congr _ ?_ ?_ <;> simp [Shape.Idx.norm_def] <;> omega
    · rw [dif_pos (by omega), if_neg ht]
      congr 1
      · congr 1 <;> (refine ix2_congr _ ?_ ?_ <;> simp [Shape.Idx.norm_def] <;> omega)
  · simp [hs]

/-- Reverse, across the chunk ends: the glued multipliers are the pass on the multipliers. -/
theorem endsR_glueA {k r : ℕ} (x : FVec Ideal ⟨2, ![64, 512]⟩ .f32)
    (h₁ h₂ h₃ hc) (hk : k + r = 64) (l : Fin 512) :
    endsR (concatenate ⟨2, ![64, 512]⟩ 0
      [⟨⟨2, ![r, 512]⟩, mulf (extractStridedSlice ⟨2, ![r, 512]⟩ ![0, 0] x h₂)
          (extractStridedSlice ⟨2, ![r, 512]⟩ ![k, 0] x h₃)⟩,
       ⟨⟨2, ![k, 512]⟩, extractStridedSlice ⟨2, ![k, 512]⟩ ![r, 0] x h₁⟩] hc) l
      = passA 64 k (endsR x l) := by
  funext s
  unfold endsR passA
  by_cases hs : s < 64
  · have hs' : s - k < 64 := by omega
    simp only [dif_pos hs, dif_pos hs']
    pointwise
    by_cases ht : s % 64 < k
    · rw [dif_neg (by omega), if_pos ht]
      refine ix2_congr _ ?_ ?_ <;> simp [Shape.Idx.norm_def] <;> omega
    · rw [dif_pos (by omega), if_neg ht]
      congr 1 <;> (refine ix2_congr _ ?_ ?_ <;> simp [Shape.Idx.norm_def] <;> omega)
  · simp [hs]

end Cert.Scan
-- ==== Proof.BlockScan.lean ====
module

public import proofs.«01_k».proof.Proof.Passes
public import proofs.«01_k».proof.Proof.Gen.KernelIdeal.Skeleton

/-!
# What the kernel's scan computes on a block

One trip of a direction's loop scans the 2048 steps of 512 lanes: five passes inside the chunks,
six passes over the chunk ends, and the entering state put back.  The theorems here read that whole
computation, lane by lane, as `Scan.scan` of the lane's multipliers and offsets.
-/

@[expose] public section

set_option maxRecDepth 16384

open Idealize.ShloMosaic

namespace Cert.KernelIdeal.Gen

open Cert.Scan

/-- Lane `l` of a block of 2048 steps, as a sequence (zero after its end). -/
noncomputable def seq (x : FVec Ideal S2048x512 .f32) (l : Fin 512) (s : ℕ) : EReal :=
  if h : s < 2048 then x (ix2 ⟨s, h⟩ l) else 0

/-- The same lane from its last step to its first. -/
noncomputable def seqR (x : FVec Ideal S2048x512 .f32) (l : Fin 512) (s : ℕ) : EReal :=
  if h : s < 2048 then x (ix2 ⟨2047 - s, by omega⟩ l) else 0

/-- Cutting the steps in chunks does not change a lane. -/
theorem col_cast (x : FVec Ideal S2048x512 .f32) (h) (l : Fin 512) :
    col (shapeCast S64x32x512 x h) l = seq x l := by
  funext s
  unfold col seq
  by_cases hs : s < 2048
  · simp only [dif_pos hs]
    pointwise
    refine ix2_congr _ ?_ ?_ <;> simp <;> omega
  · simp [hs]

/-- Cutting the steps in chunks does not change a lane read backward. -/
theorem colR_cast (x : FVec Ideal S2048x512 .f32) (h) (l : Fin 512) :
    colR (shapeCast S64x32x512 x h) l = seqR x l := by
  funext s
  unfold colR seqR
  by_cases hs : s < 2048
  · simp only [dif_pos hs]
    pointwise
    refine ix2_congr _ ?_ ?_ <;> simp <;> omega
  · simp [hs]

/-- The row of chunk ends of a block. -/
theorem ends_last (x : FVec Ideal S64x32x512 .f32) (h₁ h₂) (l : Fin 512) :
    ends (shapeCast S64x512 (extractStridedSlice S64x1x512 ![0, 31, 0] x h₁) h₂) l
      = fun c => col x l (32 * c + 31) := by
  funext c
  unfold ends col
  by_cases hc : c < 64
  · simp only [dif_pos hc, dif_pos (show 32 * c + 31 < 2048 by omega)]
    pointwise
    refine ix3_congr _ ?_ ?_ ?_ <;> simp <;> omega
  · simp only [dif_neg hc, dif_neg (show ¬ 32 * c + 31 < 2048 by omega)]

/-- The row of chunk ends of a block read backward: the first steps. -/
theorem endsR_first (x : FVec Ideal S64x32x512 .f32) (h₁ h₂) (l : Fin 512) :
    endsR (shapeCast S64x512 (extractStridedSlice S64x1x512 ![0, 0, 0] x h₁) h₂) l
      = fun c => colR x l (32 * c + 31) := by
  funext c
  unfold endsR colR
  by_cases hc : c < 64
  · simp only [dif_pos hc, dif_pos (show 32 * c + 31 < 2048 by omega)]
    pointwise
    refine ix3_congr _ ?_ ?_ ?_ <;> simp <;> omega
  · simp only [dif_neg hc, dif_neg (show ¬ 32 * c + 31 < 2048 by omega)]

/-! ## Forward -/

/-- The multipliers after the five passes inside the chunks. -/
theorem col_k0_pay19 (a : FVec Ideal S64x32x512 .f32) (l : Fin 512) :
    col (k0_pay19 a) l = passA 32 16 (passA 32 8 (passA 32 4 (passA 32 2 (col a l)))) := by
  unfold k0_pay19 k0_pay17 k0_pay16 k0_pay15
  rw [col_glueA, col_glueA, col_glueA, col_glueA] <;> rfl

/-- The offsets after the five passes inside the chunks, from those after the first. -/
theorem col_k0_pay18 (a b : FVec Ideal S64x32x512 .f32) (h₁ h₂ h₃) (l : Fin 512) :
    col (k0_pay18 b a (mulf (extractStridedSlice S64x30x512 ![0, 2, 0] a h₁)
        (extractStridedSlice S64x30x512 ![0, 0, 0] b h₂))
        (extractStridedSlice S64x30x512 ![0, 2, 0] b h₃)) l
      = passB 32 16 (passA 32 8 (passA 32 4 (passA 32 2 (col a l))))
          (passB 32 8 (passA 32 4 (passA 32 2 (col a l)))
            (passB 32 4 (passA 32 2 (col a l)) (passB 32 2 (col a l) (col b l)))) := by
  unfold k0_pay18 k0_pay17 k0_pay16 k0_pay15
  rw [col_glueB, col_glueB, col_glueB, col_glueB, col_glueA, col_glueA, col_glueA] <;> rfl

/-- The chunk ends' multipliers after their first pass. -/
theorem ends_k0_pay22 (a : FVec Ideal S64x32x512 .f32) (l : Fin 512) :
    ends (k0_pay22 a) l = passA 64 1 (fun c => col (k0_pay19 a) l (32 * c + 31)) := by
  unfold k0_pay22 k0_pay20
  rw [ends_glueA, ends_last] <;> rfl

/-- The chunk ends' offsets after their first pass. -/
theorem ends_k0_pay21 (a b : FVec Ideal S64x32x512 .f32) (u v : FVec Ideal S64x30x512 .f32)
    (l : Fin 512) :
    ends (k0_pay21 b a u v) l
      = passB 64 1 (fun c => col (k0_pay19 a) l (32 * c + 31))
          (fun c => col (k0_pay18 b a u v) l (32 * c + 31)) := by
  unfold k0_pay21 k0_pay20
  rw [ends_glueB, ends_last, ends_last] <;> rfl

/-- The states that enter the chunks: the chunk ends after the five remaining passes, one chunk
later, with zero before the first. -/
theorem k0_pay23_apply (p q : FVec Ideal S64x512 .f32) (c : Fin 64) (l : Fin 512) :
    k0_pay23 q p (ix3 c 0 l) = enter
      (passB 64 32 (passA 64 16 (passA 64 8 (passA 64 4 (passA 64 2 (ends p l)))))
        (passB 64 16 (passA 64 8 (passA 64 4 (passA 64 2 (ends p l))))
          (passB 64 8 (passA 64 4 (passA 64 2 (ends p l)))
            (passB 64 4 (passA 64 2 (ends p l)) (passB 64 2 (ends p l) (ends q l)))))) c := by
  have key : ∀ (e : FVec Ideal S64x512 .f32) (h₁ h₂ h₃),
      shapeCast S64x1x512 (concatenate S64x512 0
        [⟨S1x512, broadcast S1x512 (Scalar.ofBits (F := Ideal) .f32 0x00000000#32)⟩,
         ⟨S63x512, extractStridedSlice S63x512 ![0, 0] e h₁⟩] h₂) h₃ (ix3 c 0 l)
        = enter (ends e l) c := by
    intro e h₁ h₂ h₃
    unfold enter ends
    pointwise
    by_cases hc : c.val < 1
    · simp [hc]
    · simp only [hc, dif_neg, if_neg, not_false_eq_true, dif_pos (show c.val - 1 < 64 by omega)]
  unfold k0_pay23
  refine (key _ _ _ _).trans ?_
  rw [ends_glueB, ends_glueB, ends_glueB, ends_glueB, ends_glueB, ends_glueA, ends_glueA, ends_glueA,
    ends_glueA] <;> rfl

/-- A trip's contribution: the two halves of the lanes, each the third coefficient times the
state, added to what earlier trips gave. -/
theorem k0_pay55_apply (y : FVec Ideal S2048x256 .f32) (w : FVec Ideal S2048x512 .f32)
    (b a : FVec Ideal S64x32x512 .f32) (e : FVec Ideal S64x1x512 .f32) (s : Fin 2048) (j : Fin 256) :
    k0_pay55 y w b a e (ix2 s j)
      = (y (ix2 s j)
          + w (ix2 s ⟨j, by omega⟩) * (col b ⟨j, by omega⟩ s
              + col a ⟨j, by omega⟩ s * e (ix3 ⟨s / 32, by omega⟩ 0 ⟨j, by omega⟩)))
        + w (ix2 s ⟨256 + j, by omega⟩) * (col b ⟨256 + j, by omega⟩ s
              + col a ⟨256 + j, by omega⟩ s * e (ix3 ⟨s / 32, by omega⟩ 0 ⟨256 + j, by omega⟩)) := by
  simp only [col, dif_pos s.isLt]
  pointwise [k0_pay55]

/-- A trip of the forward scan, at a step and a lane: the lane's multipliers and offsets scanned. -/
theorem forward_scan (a b : Fin 512 → ℕ → EReal) (y : FVec Ideal S2048x256 .f32)
    (w : FVec Ideal S2048x512 .f32) (A₁ B₁ : FVec Ideal S64x32x512 .f32) (U V : FVec Ideal S64x30x512 .f32)
    (hA : ∀ l, col A₁ l = passA 32 1 (a l)) (hB : ∀ l, col B₁ l = passB 32 1 (a l) (b l))
    (h₁ h₂ h₃) (hU : U = mulf (extractStridedSlice S64x30x512 ![0, 2, 0] A₁ h₁)
        (extractStridedSlice S64x30x512 ![0, 0, 0] B₁ h₂))
    (hV : V = extractStridedSlice S64x30x512 ![0, 2, 0] B₁ h₃) (s : Fin 2048) (j : Fin 256) :
    k0_pay55 y w (k0_pay18 B₁ A₁ U V) (k0_pay19 A₁) (k0_pay23 (k0_pay21 B₁ A₁ U V) (k0_pay22 A₁))
        (ix2 s j)
      = (y (ix2 s j)
          + w (ix2 s ⟨j, by omega⟩) * scan (a ⟨j, by omega⟩) (b ⟨j, by omega⟩) s)
        + w (ix2 s ⟨256 + j, by omega⟩)
          * scan (a ⟨256 + j, by omega⟩) (b ⟨256 + j, by omega⟩) s := by
  subst hU hV
  simp only [k0_pay55_apply, k0_pay23_apply, ends_k0_pay22, ends_k0_pay21, col_k0_pay18,
    col_k0_pay19, hA, hB]
  rfl

/-! ## Backward -/

/-- The multipliers after the five passes inside the chunks. -/
theorem colR_k0_pay35 (a : FVec Ideal S64x32x512 .f32) (l : Fin 512) :
    colR (k0_pay35 a) l = passA 32 16 (passA 32 8 (passA 32 4 (passA 32 2 (colR a l)))) := by
  unfold k0_pay35 k0_pay33 k0_pay32 k0_pay31
  rw [colR_glueA, colR_glueA, colR_glueA, colR_glueA] <;> rfl

/-- The offsets after the five passes inside the chunks, from those after the first. -/
theorem colR_k0_pay34 (a b : FVec Ideal S64x32x512 .f32) (h₁ h₂ h₃) (l : Fin 512) :
    colR (k0_pay34 b a (mulf (extractStridedSlice S64x30x512 ![0, 0, 0] a h₁)
        (extractStridedSlice S64x30x512 ![0, 2, 0] b h₂))
        (extractStridedSlice S64x30x512 ![0, 0, 0] b h₃)) l
      = passB 32 16 (passA 32 8 (passA 32 4 (passA 32 2 (colR a l))))
          (passB 32 8 (passA 32 4 (passA 32 2 (colR a l)))
            (passB 32 4 (passA 32 2 (colR a l)) (passB 32 2 (colR a l) (colR b l)))) := by
  unfold k0_pay34 k0_pay33 k0_pay32 k0_pay31
  rw [colR_glueB, colR_glueB, colR_glueB, colR_glueB, colR_glueA, colR_glueA, colR_glueA] <;> rfl

/-- The chunk ends' multipliers after their first pass. -/
theorem endsR_k0_pay38 (a : FVec Ideal S64x32x512 .f32) (l : Fin 512) :
    endsR (k0_pay38 a) l = passA 64 1 (fun c => colR (k0_pay35 a) l (32 * c + 31)) := by
  unfold k0_pay38 k0_pay36
  rw [endsR_glueA, endsR_first] <;> rfl

/-- The chunk ends' offsets after their first pass. -/
theorem endsR_k0_pay37 (a b : FVec Ideal S64x32x512 .f32) (u v : FVec Ideal S64x30x512 .f32)
    (l : Fin 512) :
    endsR (k0_pay37 b a u v) l
      = passB 64 1 (fun c => colR (k0_pay35 a) l (32 * c + 31))
          (fun c => colR (k0_pay34 b a u v) l (32 * c + 31)) := by
  unfold k0_pay37 k0_pay36
  rw [endsR_glueB, endsR_first, endsR_first] <;> rfl

/-- The states that enter the chunks: the chunk ends after the five remaining passes, read from the
last chunk to the first. -/
theorem k0_pay39_apply (p q : FVec Ideal S64x512 .f32) (c : Fin 64) (l : Fin 512) :
    k0_pay39 q p (ix3 c 0 l) = enter
      (passB 64 32 (passA 64 16 (passA 64 8 (passA 64 4 (passA 64 2 (endsR p l)))))
        (passB 64 16 (passA 64 8 (passA 64 4 (passA 64 2 (endsR p l))))
          (passB 64 8 (passA 64 4 (passA 64 2 (endsR p l)))
            (passB 64 4 (passA 64 2 (endsR p l)) (passB 64 2 (endsR p l) (endsR q l)))))) (63 - c) := by
  have key : ∀ (e : FVec Ideal S64x512 .f32) (h₁ h₂ h₃),
      shapeCast S64x1x512 (concatenate S64x512 0
        [⟨S63x512, extractStridedSlice S63x512 ![1, 0] e h₁⟩,
         ⟨S1x512, broadcast S1x512 (Scalar.ofBits (F := Ideal) .f32 0x00000000#32)⟩] h₂) h₃
          (ix3 c 0 l)
        = enter (endsR e l) (63 - c) := by
    intro e h₁ h₂ h₃
    unfold enter endsR
    pointwise
    by_cases hc : c.val < 63
    · rw [dif_pos hc, if_neg (by omega), dif_pos (by omega)]
      refine ix2_congr _ ?_ ?_ <;> simp <;> omega
    · rw [dif_neg hc, if_pos (by omega)]
  unfold k0_pay39
  refine (key _ _ _ _).trans ?_
  rw [endsR_glueB, endsR_glueB, endsR_glueB, endsR_glueB, endsR_glueB, endsR_glueA, endsR_glueA, endsR_glueA,
    endsR_glueA] <;> rfl

/-- A trip's contribution: the two halves of the lanes, each the third coefficient times the
state, added to what earlier trips gave. -/
theorem k0_pay6_apply (y : FVec Ideal S2048x256 .f32) (w : FVec Ideal S2048x512 .f32)
    (b a : FVec Ideal S64x32x512 .f32) (e : FVec Ideal S64x1x512 .f32) (s : Fin 2048) (j : Fin 256) :
    k0_pay6 y w b a e (ix2 s j)
      = (y (ix2 s j)
          + w (ix2 s ⟨j, by omega⟩) * (colR b ⟨j, by omega⟩ (2047 - s)
              + colR a ⟨j, by omega⟩ (2047 - s) * e (ix3 ⟨s / 32, by omega⟩ 0 ⟨j, by omega⟩)))
        + w (ix2 s ⟨256 + j, by omega⟩) * (colR b ⟨256 + j, by omega⟩ (2047 - s)
              + colR a ⟨256 + j, by omega⟩ (2047 - s) * e (ix3 ⟨s / 32, by omega⟩ 0 ⟨256 + j, by omega⟩)) := by
  simp only [colR, dif_pos (show 2047 - s.val < 2048 by omega)]
  pointwise [k0_pay6]
  have h1 : 63 - (2047 - s.val) / 32 = s.val / 32 := by omega
  have h2 : 31 - (2047 - s.val) % 32 = s.val % 32 := by omega
  simp only [h1, h2]

/-- A trip of the backward scan, at a step and a lane: the lane's multipliers and offsets scanned. -/
theorem backward_scan (a b : Fin 512 → ℕ → EReal) (y : FVec Ideal S2048x256 .f32)
    (w : FVec Ideal S2048x512 .f32) (A₁ B₁ : FVec Ideal S64x32x512 .f32) (U V : FVec Ideal S64x30x512 .f32)
    (hA : ∀ l, colR A₁ l = passA 32 1 (a l)) (hB : ∀ l, colR B₁ l = passB 32 1 (a l) (b l))
    (h₁ h₂ h₃) (hU : U = mulf (extractStridedSlice S64x30x512 ![0, 0, 0] A₁ h₁)
        (extractStridedSlice S64x30x512 ![0, 2, 0] B₁ h₂))
    (hV : V = extractStridedSlice S64x30x512 ![0, 0, 0] B₁ h₃) (s : Fin 2048) (j : Fin 256) :
    k0_pay6 y w (k0_pay34 B₁ A₁ U V) (k0_pay35 A₁) (k0_pay39 (k0_pay37 B₁ A₁ U V) (k0_pay38 A₁))
        (ix2 s j)
      = (y (ix2 s j)
          + w (ix2 s ⟨j, by omega⟩) * scan (a ⟨j, by omega⟩) (b ⟨j, by omega⟩) (2047 - s))
        + w (ix2 s ⟨256 + j, by omega⟩)
          * scan (a ⟨256 + j, by omega⟩) (b ⟨256 + j, by omega⟩) (2047 - s) := by
  subst hU hV
  simp only [k0_pay6_apply, k0_pay39_apply, endsR_k0_pay38, endsR_k0_pay37, colR_k0_pay34,
    colR_k0_pay35, hA, hB]
  have hc : (2047 - s.val) / 32 = 63 - s.val / 32 := by omega
  unfold Scan.scan
  rw [hc]
  rfl

end Cert.KernelIdeal.Gen
-- ==== Proof.Trip.lean ====
module

public import proofs.«01_k».proof.Proof.BlockScan

/-!
# One trip of a direction's loop, at a step and a lane

A trip takes two of the sixteen states, one in the left and one in the right half of the 512 lanes.
The theorems here read its multipliers, offsets and output coefficients, and give the trip's result
as two terms of the sum over states.
-/

@[expose] public section

set_option maxRecDepth 16384

open Idealize.ShloMosaic

namespace Cert.KernelIdeal.Gen

open Cert.Scan

/-- A row of two halves. -/
def half {α : Type} (u v : Fin 256 → α) (l : Fin 512) : α :=
  if h : l.val < 256 then u ⟨l, h⟩ else v ⟨l - 256, by omega⟩

/-- A sequence of 2048 steps from the last to the first, continued by zero. -/
noncomputable def downTo (f : Fin 2048 → EReal) : ℕ → EReal := upTo fun s => f ⟨2047 - s.val, by omega⟩

/-- A lane of the left half. -/
theorem half_left {α : Type} (u v : Fin 256 → α) (j : Fin 256) (h) : half u v ⟨j.val, h⟩ = u j := by
  unfold half; rw [dif_pos j.isLt]

/-- A lane of the right half. -/
theorem half_right {α : Type} (u v : Fin 256 → α) (j : Fin 256) (h) :
    half u v ⟨256 + j.val, h⟩ = v j := by
  unfold half; rw [dif_neg (by simp)]
  congr 1
  exact Fin.ext (Nat.add_sub_cancel_left _ _)

/-- The multiplier of a step of one state of one channel. -/
noncomputable def mult (dt : FVec Ideal S2048x256 .f32) (al : EReal) (j : Fin 256) (s : Fin 2048) :
    EReal := Ideal.exp (dt (ix2 s j) * (0 - Ideal.exp al))

/-- The offset of a step of state `n` of one channel. -/
noncomputable def offs (dt x : FVec Ideal S2048x256 .f32) (v : FVec Ideal S2048x48 .f32) (n : Fin 16)
    (j : Fin 256) (s : Fin 2048) : EReal :=
  dt (ix2 s j) * x (ix2 s j) * v (ix2 s ⟨16 + n, by omega⟩)

/-- Multipliers lie between zero and one. -/
theorem mult_bounds (dt : FVec Ideal S2048x256 .f32) (hdt : ∀ i, 0 ≤ dt i) (al : EReal) (j : Fin 256)
    (s : Fin 2048) : 0 ≤ mult dt al j s ∧ mult dt al j s ≤ 1 :=
  exp_step_bounds (hdt _) al

/-- So do their sequences. -/
theorem upTo_bounds (f : Fin 2048 → EReal) (hf : ∀ s, 0 ≤ f s ∧ f s ≤ 1) (s : ℕ) :
    0 ≤ upTo f s ∧ upTo f s ≤ 1 := by
  unfold upTo; split
  · exact hf _
  · exact ⟨le_rfl, zero_le_one⟩

/-- And their sequences read backward. -/
theorem downTo_bounds (f : Fin 2048 → EReal) (hf : ∀ s, 0 ≤ f s ∧ f s ≤ 1) (s : ℕ) :
    0 ≤ downTo f s ∧ downTo f s ≤ 1 := upTo_bounds _ (fun _ => hf _) s

/-- What state `n` contributes to the forward output at a step. -/
noncomputable def term (dt x : FVec Ideal S2048x256 .f32) (v : FVec Ideal S2048x48 .f32)
    (alog : Fin 16 → Fin 256 → EReal) (s : Fin 2048) (j : Fin 256) (n : Fin 16) : EReal :=
  v (ix2 s ⟨32 + n, by omega⟩)
    * state (upTo (mult dt (alog n j) j)) (upTo (offs dt x v n j)) (s + 1)

/-- What state `n` contributes to the backward output at a step. -/
noncomputable def termR (dt x : FVec Ideal S2048x256 .f32) (v : FVec Ideal S2048x48 .f32)
    (alog : Fin 16 → Fin 256 → EReal) (s : Fin 2048) (j : Fin 256) (n : Fin 16) : EReal :=
  v (ix2 s ⟨32 + n, by omega⟩)
    * state (downTo (mult dt (alog n j) j)) (downTo (offs dt x v n j)) (2047 - s + 1)

/-- The multipliers after the first pass: `exp (dt * -exp A)`, one row of `A` per half. -/
theorem col_k0_pay12 (d : FVec Ideal S2048x512 .f32) (r₁ r₂ : FVec Ideal S1x256 .f32) (l : Fin 512) :
    col (k0_pay12 d r₁ r₂) l
      = passA 32 1 (upTo fun s => Ideal.exp (d (ix2 s l)
          * (0 - Ideal.exp (half (fun j => r₁ (ix2 0 j)) (fun j => r₂ (ix2 0 j)) l)))) := by
  unfold k0_pay12 k0_pay10
  rw [col_glueA _ _ _ _ _ (by decide), col_cast]
  congr 1
  funext s
  unfold seq upTo half
  by_cases hs : s < 2048
  · simp only [dif_pos hs]
    pointwise
  · simp [hs]

/-- A product with a one-hot matrix picks a column. -/
theorem one_hot (v : FVec Ideal S2048x48 .f32) (p q : IVec S48x512 32) (n : ℕ) (hn : n < 48)
    (s : Fin 2048) (l : Fin 512) (hp : ∀ k : Fin 48, p (ix2 k l) = BitVec.ofNat 32 k.val)
    (hq : ∀ k : Fin 48, q (ix2 k l) = BitVec.ofNat 32 n) :
    matmul dot_S2048x48_S48x512_S2048x512_1_0_0_1_n_n none v
      (sitofp .f32 (extui 32 (cmpi .eq p q) natLt_1_32)) (constant S2048x512 .f32 0x00000000#32) (ix2 s l)
      = v (ix2 s ⟨n, hn⟩) := by
  pointwise
  have h : ∀ x : Fin 48, FloatOps.sitofp (F := Ideal) FTy.f32
      (BitVec.setWidth 32 (IntOp.cmpi CmpIPredicate.eq (p (ix2 x l)) (q (ix2 x l))))
      = if x.val = n then 1 else 0 := by
    intro x
    rw [hp, hq, show IntOp.cmpi CmpIPredicate.eq (BitVec.ofNat 32 x.val) (BitVec.ofNat 32 n)
      = BitVec.ofBool (decide (x.val = n)) from ?_]
    · show (((BitVec.setWidth 32 (BitVec.ofBool (decide (x.val = n)))).toInt : ℝ) : EReal) = _
      by_cases hx : x.val = n <;> simp [hx]
    · unfold IntOp.cmpi
      congr 1
      have : (BitVec.ofNat 32 x.val = BitVec.ofNat 32 n) ↔ x.val = n := by
        rw [← BitVec.toNat_inj]
        simp only [BitVec.toNat_ofNat]
        omega
      simp only [beq_eq_decide, this]
  simp only [h]
  rw [Finset.sum_eq_single ⟨n, hn⟩]
  · simp
  · intro b _ hb
    rw [if_neg (fun e => hb (Fin.ext e)), mul_zero]
  · simp

/-- The row a lane's first coefficient stands in. -/
theorem k0_pay8_apply (k : Fin k0_t1_loop.trips) (r : Fin 48) (l : Fin 512) :
    k0_pay8 k0_pay53 0#32 1#32 k (ix2 r l)
      = BitVec.ofNat 32 (16 + k.val + half (fun _ => 0) (fun _ => 8) l) := by
  have hk : k.val < 8 := Nat.lt_of_lt_of_le k.isLt k0_t1_abs.2.1
  pointwise [k0_pay8, k0_pay53]
  have e1 : ∀ k : Fin 8, Scf.iv 0#32 1#32 k.val = BitVec.ofNat 32 k.val := by decide +kernel
  have e2 : ∀ l : Fin 512, IntOp.cmpi CmpIPredicate.slt (BitVec.ofNat 32 l.val) 256#32
      = BitVec.ofBool (decide (l.val < 256)) := by decide +kernel
  have e3 : ∀ k : Fin 8, Scalar.addi (16#32) (BitVec.ofNat 32 k.val) = BitVec.ofNat 32 (16 + k.val)
      ∧ Scalar.addi (BitVec.ofNat 32 (16 + k.val)) 8#32 = BitVec.ofNat 32 (16 + k.val + 8) := by
    decide +kernel
  rw [e1 ⟨k, hk⟩, e2, (e3 ⟨k, hk⟩).1, (e3 ⟨k, hk⟩).2]
  unfold half
  by_cases hl : l.val < 256 <;> simp [hl, Scalar.select]

/-- The state of a lane in trip `k`: `k` in the left half, `k + 8` in the right. -/
theorem state_lt {k : ℕ} (hk : k < 8) (l : Fin 512) : k + half (fun _ => 0) (fun _ => 8) l < 16 := by
  unfold half; split <;> simp <;> omega

/-- The output coefficient of a lane. -/
theorem k0_pay9_apply (v : FVec Ideal S2048x48 .f32) (k : Fin k0_t1_loop.trips) (hk : k.val < 8)
    (s : Fin 2048) (l : Fin 512) (p : IVec S48x512 32)
    (hp : ∀ r : Fin 48, p (ix2 r l) = BitVec.ofNat 32 r.val) :
    k0_pay9 v p k0_pay53 0#32 1#32 k (ix2 s l)
      = v (ix2 s ⟨32 + (k.val + half (fun _ => 0) (fun _ => 8) l), by
          have := state_lt hk l; omega⟩) := by
  unfold k0_pay9
  refine one_hot _ _ _ _ _ s l hp fun r => ?_
  have e : ∀ m : Fin 32, Scalar.addi (BitVec.ofNat 32 (16 + m.val)) 16#32
      = BitVec.ofNat 32 (32 + m.val) := by decide +kernel
  pointwise
  rw [k0_pay8_apply]
  have := e ⟨k.val + half (fun _ => 0) (fun _ => 8) l, by have := state_lt hk l; omega⟩
  rw [Nat.add_assoc]
  exact this

/-- The offsets after the first pass: `(dt * x) * B`. -/
theorem col_k0_pay11 (v : FVec Ideal S2048x48 .f32) (u d : FVec Ideal S2048x512 .f32)
    (k : Fin k0_t1_loop.trips) (hk : k.val < 8) (p : IVec S48x512 32)
    (hp : ∀ (r : Fin 48) (l : Fin 512), p (ix2 r l) = BitVec.ofNat 32 r.val)
    (r₁ r₂ : FVec Ideal S1x256 .f32) (l : Fin 512) :
    col (k0_pay11 v u d p k0_pay53 0#32 1#32 k r₁ r₂) l
      = passB 32 1 (upTo fun s => Ideal.exp (d (ix2 s l)
          * (0 - Ideal.exp (half (fun j => r₁ (ix2 0 j)) (fun j => r₂ (ix2 0 j)) l))))
        (upTo fun s => u (ix2 s l) * v (ix2 s ⟨16 + (k.val + half (fun _ => 0) (fun _ => 8) l), by
          have := state_lt hk l; omega⟩)) := by
  unfold k0_pay11 k0_pay10
  rw [col_glueB _ _ _ _ _ _ _ (by decide), col_cast, col_cast]
  congr 1
  · funext s
    unfold seq upTo half
    by_cases hs : s < 2048
    · simp only [dif_pos hs]
      pointwise
    · simp only [dif_neg hs]
  · funext s
    unfold seq upTo
    by_cases hs : s < 2048
    · simp only [dif_pos hs]
      rw [ValueIdx.mulf_apply]
      rw [one_hot _ _ _ _ _ _ _ (fun r => hp r l) fun r => by rw [k0_pay8_apply, Nat.add_assoc]]
    · simp [hs]

/-- A forward trip: what it adds to the sum over states, at a step and a lane. -/
theorem forward_trip (v : FVec Ideal S2048x48 .f32) (u d : FVec Ideal S2048x512 .f32)
    (k : Fin k0_t1_loop.trips) (hk : k.val < 8) (p : IVec S48x512 32)
    (hp : ∀ (r : Fin 48) (l : Fin 512), p (ix2 r l) = BitVec.ofNat 32 r.val)
    (r₁ r₂ : FVec Ideal S1x256 .f32) (y : FVec Ideal S2048x256 .f32) (s : Fin 2048) (j : Fin 256)
    (x : FVec Ideal S2048x256 .f32) (dt : FVec Ideal S2048x256 .f32) (hdt : ∀ i, 0 ≤ dt i) (alog : Fin 16 → Fin 256 → EReal)
    (hu : ∀ s l, u (ix2 s l) = half (fun j => dt (ix2 s j) * x (ix2 s j)) (fun j => dt (ix2 s j) * x (ix2 s j)) l)
    (hd : ∀ s l, d (ix2 s l) = half (fun j => dt (ix2 s j)) (fun j => dt (ix2 s j)) l)
    (h₁ : ∀ j, r₁ (ix2 0 j) = alog ⟨k.val, by omega⟩ j)
    (h₂ : ∀ j, r₂ (ix2 0 j) = alog ⟨k.val + 8, by omega⟩ j) :
    k0_pay55 y (k0_pay9 v p k0_pay53 0#32 1#32 k)
      (k0_pay18 (k0_pay11 v u d p k0_pay53 0#32 1#32 k r₁ r₂) (k0_pay12 d r₁ r₂)
        (k0_pay13 v u d p k0_pay53 0#32 1#32 k r₁ r₂) (k0_pay14 v u d p k0_pay53 0#32 1#32 k r₁ r₂))
      (k0_pay19 (k0_pay12 d r₁ r₂))
      (k0_pay23 (k0_pay21 (k0_pay11 v u d p k0_pay53 0#32 1#32 k r₁ r₂) (k0_pay12 d r₁ r₂)
        (k0_pay13 v u d p k0_pay53 0#32 1#32 k r₁ r₂) (k0_pay14 v u d p k0_pay53 0#32 1#32 k r₁ r₂))
        (k0_pay22 (k0_pay12 d r₁ r₂))) (ix2 s j)
      = (y (ix2 s j) + term dt x v alog s j ⟨k.val, by omega⟩)
        + term dt x v alog s j ⟨k.val + 8, by omega⟩ := by
  refine (forward_scan _ _ y _ _ _ (k0_pay13 v u d p k0_pay53 0#32 1#32 k r₁ r₂)
    (k0_pay14 v u d p k0_pay53 0#32 1#32 k r₁ r₂) (fun l => col_k0_pay12 d r₁ r₂ l)
    (fun l => col_k0_pay11 v u d k hk p hp r₁ r₂ l)
    slices_S64x32x512_o0_2_0_S64x30x512 slices_S64x32x512_o0_0_0_S64x30x512
    slices_S64x32x512_o0_2_0_S64x30x512 rfl rfl s j).trans ?_
  rw [k0_pay9_apply _ _ hk _ _ _ (fun r => hp r _), k0_pay9_apply _ _ hk _ _ _ (fun r => hp r _)]
  simp only [hd, hu, half_left, half_right, h₁, h₂, Nat.add_zero]
  have hb := fun al => upTo_bounds _ (mult_bounds dt hdt al j)
  exact congrArg₂ _ (congrArg₂ _ rfl (congrArg₂ _ rfl (scan_eq _ _ (hb _) s s.isLt)))
    (congrArg₂ _ rfl (scan_eq _ _ (hb _) s s.isLt))

/-! ## Backward -/

/-- The multipliers after the first pass: `exp (dt * -exp A)`, one row of `A` per half. -/
theorem colR_k0_pay28 (d : FVec Ideal S2048x512 .f32) (r₁ r₂ : FVec Ideal S1x256 .f32) (l : Fin 512) :
    colR (k0_pay28 d r₁ r₂) l
      = passA 32 1 (downTo fun s => Ideal.exp (d (ix2 s l)
          * (0 - Ideal.exp (half (fun j => r₁ (ix2 0 j)) (fun j => r₂ (ix2 0 j)) l)))) := by
  unfold k0_pay28 k0_pay26
  rw [colR_glueA _ _ _ _ _ (by decide), colR_cast]
  congr 1
  funext s
  unfold seqR downTo upTo half
  by_cases hs : s < 2048
  · simp only [dif_pos hs]
    pointwise
  · simp [hs]

/-- The row a lane's first coefficient stands in. -/
theorem k0_pay24_apply (k : Fin k0_t2_loop.trips) (r : Fin 48) (l : Fin 512) :
    k0_pay24 k0_pay4 0#32 1#32 k (ix2 r l)
      = BitVec.ofNat 32 (16 + k.val + half (fun _ => 0) (fun _ => 8) l) := by
  have hk : k.val < 8 := Nat.lt_of_lt_of_le k.isLt k0_t2_abs.2.1
  pointwise [k0_pay24, k0_pay4]
  have e1 : ∀ k : Fin 8, Scf.iv 0#32 1#32 k.val = BitVec.ofNat 32 k.val := by decide +kernel
  have e2 : ∀ l : Fin 512, IntOp.cmpi CmpIPredicate.slt (BitVec.ofNat 32 l.val) 256#32
      = BitVec.ofBool (decide (l.val < 256)) := by decide +kernel
  have e3 : ∀ k : Fin 8, Scalar.addi (16#32) (BitVec.ofNat 32 k.val) = BitVec.ofNat 32 (16 + k.val)
      ∧ Scalar.addi (BitVec.ofNat 32 (16 + k.val)) 8#32 = BitVec.ofNat 32 (16 + k.val + 8) := by
    decide +kernel
  rw [e1 ⟨k, hk⟩, e2, (e3 ⟨k, hk⟩).1, (e3 ⟨k, hk⟩).2]
  unfold half
  by_cases hl : l.val < 256 <;> simp [hl, Scalar.select]

/-- The output coefficient of a lane. -/
theorem k0_pay25_apply (v : FVec Ideal S2048x48 .f32) (k : Fin k0_t2_loop.trips) (hk : k.val < 8)
    (s : Fin 2048) (l : Fin 512) (p : IVec S48x512 32)
    (hp : ∀ r : Fin 48, p (ix2 r l) = BitVec.ofNat 32 r.val) :
    k0_pay25 v p k0_pay4 0#32 1#32 k (ix2 s l)
      = v (ix2 s ⟨32 + (k.val + half (fun _ => 0) (fun _ => 8) l), by
          have := state_lt hk l; omega⟩) := by
  unfold k0_pay25
  refine one_hot _ _ _ _ _ s l hp fun r => ?_
  have e : ∀ m : Fin 32, Scalar.addi (BitVec.ofNat 32 (16 + m.val)) 16#32
      = BitVec.ofNat 32 (32 + m.val) := by decide +kernel
  pointwise
  rw [k0_pay24_apply]
  have := e ⟨k.val + half (fun _ => 0) (fun _ => 8) l, by have := state_lt hk l; omega⟩
  rw [Nat.add_assoc]
  exact this

/-- The offsets after the first pass: `(dt * x) * B`. -/
theorem colR_k0_pay27 (v : FVec Ideal S2048x48 .f32) (u d : FVec Ideal S2048x512 .f32)
    (k : Fin k0_t2_loop.trips) (hk : k.val < 8) (p : IVec S48x512 32)
    (hp : ∀ (r : Fin 48) (l : Fin 512), p (ix2 r l) = BitVec.ofNat 32 r.val)
    (r₁ r₂ : FVec Ideal S1x256 .f32) (l : Fin 512) :
    colR (k0_pay27 v u d p k0_pay4 0#32 1#32 k r₁ r₂) l
      = passB 32 1 (downTo fun s => Ideal.exp (d (ix2 s l)
          * (0 - Ideal.exp (half (fun j => r₁ (ix2 0 j)) (fun j => r₂ (ix2 0 j)) l))))
        (downTo fun s => u (ix2 s l) * v (ix2 s ⟨16 + (k.val + half (fun _ => 0) (fun _ => 8) l), by
          have := state_lt hk l; omega⟩)) := by
  unfold k0_pay27 k0_pay26
  rw [colR_glueB _ _ _ _ _ _ _ (by decide), colR_cast, colR_cast]
  congr 1
  · funext s
    unfold seqR downTo upTo half
    by_cases hs : s < 2048
    · simp only [dif_pos hs]
      pointwise
    · simp only [dif_neg hs]
  · funext s
    unfold seqR downTo upTo
    by_cases hs : s < 2048
    · simp only [dif_pos hs]
      rw [ValueIdx.mulf_apply]
      rw [one_hot _ _ _ _ _ _ _ (fun r => hp r l) fun r => by rw [k0_pay24_apply, Nat.add_assoc]]
    · simp [hs]

/-- A backward trip: what it adds to the sum over states, at a step and a lane. -/
theorem backward_trip (v : FVec Ideal S2048x48 .f32) (u d : FVec Ideal S2048x512 .f32)
    (k : Fin k0_t2_loop.trips) (hk : k.val < 8) (p : IVec S48x512 32)
    (hp : ∀ (r : Fin 48) (l : Fin 512), p (ix2 r l) = BitVec.ofNat 32 r.val)
    (r₁ r₂ : FVec Ideal S1x256 .f32) (y : FVec Ideal S2048x256 .f32) (s : Fin 2048) (j : Fin 256)
    (x : FVec Ideal S2048x256 .f32) (dt : FVec Ideal S2048x256 .f32) (hdt : ∀ i, 0 ≤ dt i) (alog : Fin 16 → Fin 256 → EReal)
    (hu : ∀ s l, u (ix2 s l) = half (fun j => dt (ix2 s j) * x (ix2 s j)) (fun j => dt (ix2 s j) * x (ix2 s j)) l)
    (hd : ∀ s l, d (ix2 s l) = half (fun j => dt (ix2 s j)) (fun j => dt (ix2 s j)) l)
    (h₁ : ∀ j, r₁ (ix2 0 j) = alog ⟨k.val, by omega⟩ j)
    (h₂ : ∀ j, r₂ (ix2 0 j) = alog ⟨k.val + 8, by omega⟩ j) :
    k0_pay6 y (k0_pay25 v p k0_pay4 0#32 1#32 k)
      (k0_pay34 (k0_pay27 v u d p k0_pay4 0#32 1#32 k r₁ r₂) (k0_pay28 d r₁ r₂)
        (k0_pay29 v u d p k0_pay4 0#32 1#32 k r₁ r₂) (k0_pay30 v u d p k0_pay4 0#32 1#32 k r₁ r₂))
      (k0_pay35 (k0_pay28 d r₁ r₂))
      (k0_pay39 (k0_pay37 (k0_pay27 v u d p k0_pay4 0#32 1#32 k r₁ r₂) (k0_pay28 d r₁ r₂)
        (k0_pay29 v u d p k0_pay4 0#32 1#32 k r₁ r₂) (k0_pay30 v u d p k0_pay4 0#32 1#32 k r₁ r₂))
        (k0_pay38 (k0_pay28 d r₁ r₂))) (ix2 s j)
      = (y (ix2 s j) + termR dt x v alog s j ⟨k.val, by omega⟩)
        + termR dt x v alog s j ⟨k.val + 8, by omega⟩ := by
  refine (backward_scan _ _ y _ _ _ (k0_pay29 v u d p k0_pay4 0#32 1#32 k r₁ r₂)
    (k0_pay30 v u d p k0_pay4 0#32 1#32 k r₁ r₂) (fun l => colR_k0_pay28 d r₁ r₂ l)
    (fun l => colR_k0_pay27 v u d k hk p hp r₁ r₂ l)
    slices_S64x32x512_o0_0_0_S64x30x512 slices_S64x32x512_o0_2_0_S64x30x512
    slices_S64x32x512_o0_0_0_S64x30x512 rfl rfl s j).trans ?_
  rw [k0_pay25_apply _ _ hk _ _ _ (fun r => hp r _), k0_pay25_apply _ _ hk _ _ _ (fun r => hp r _)]
  simp only [hd, hu, half_left, half_right, h₁, h₂, Nat.add_zero]
  have hb := fun al => downTo_bounds _ (mult_bounds dt hdt al j)
  exact congrArg₂ _ (congrArg₂ _ rfl (congrArg₂ _ rfl (scan_eq _ _ (hb _) (2047 - s) (by omega))))
    (congrArg₂ _ rfl (scan_eq _ _ (hb _) (2047 - s) (by omega)))

end Cert.KernelIdeal.Gen
-- ==== Proof.LoopSum.lean ====
module

public import proofs.«01_k».proof.Proof.Trip
public import proofs.«01_k».proof.Proof.Gen.KernelIdeal.Loops
public import Idealize.ShloMosaic.Lib.Pipeline.ValueKit

/-!
# The two loops of the kernel

Each loop runs eight trips and carries the output of its direction.  Before trip `m` that is the
initial value plus the contributions of the states `k` and `k + 8` for `k < m`; after the last it is
the initial value plus the sum over all sixteen states.
-/

@[expose] public section

set_option maxRecDepth 16384

namespace Cert.KernelIdeal.Gen

open Idealize.ShloMosaic Idealize.ShloMosaic.TcCoe Idealize.SL.Sem
open Cert.Scan

/-- Softplus as the kernel computes it is not negative. -/
theorem k0_pay50_nonneg (v11 : FVec Ideal S256x48 .f32) (v13 : FVec Ideal S16x256 .f32)
    (v15 : FVec Ideal S1x256 .f32) (v34 : FVec Ideal S2048x256 .f32) (z : FVec Ideal S2048x48 .f32)
    (i : S2048x256.Idx) : 0 ≤ k0_pay50 v11 v13 v15 v34 z i := by
  obtain ⟨s, j, rfl⟩ : ∃ s j, i = ix2 s j := ⟨i 0, i 1, (eq_ix2 i)⟩
  unfold k0_pay50
  rw [ValueIdx.select_apply]
  pointwise
  rw [if_neg (not_not.2 rfl)]
  exact softplus_nonneg _ _

/-- A row of a 16-row array, loaded. -/
theorem row_at (v : View sig .tc .vmem S16x256 .f32) (X : BufTy.Contents (Elt Ideal) v.ty)
    (off : Fin 2 → ℕ) (h) (k : ℕ) (hk : k < 16) (h0 : off 0 = k) (h1 : off 1 = 0) (j : Fin 256) :
    View.readAt (Elt Ideal) v (Rect.unit (s := S16x256) off S1x256.size h).toLoadRect X (ix2 0 j)
      = v.read (Elt Ideal) X (ix2 ⟨k, hk⟩ j) := by
  subst h0
  refine congrArg (v.read (Elt Ideal) X) ?_
  funext a
  refine Fin.ext ?_
  fin_cases a
  · show off 0 + 1 * 0 = off 0
    omega
  · show off 1 + 1 * j.val = j.val
    omega

/-- Eight trips of two states each make the sum over sixteen states. -/
theorem eight_trips (g : ℕ → EReal) (f : Fin 16 → EReal)
    (h : ∀ (k : ℕ) (hk : k < 8), g (k + 1) = (g k + f ⟨k, by omega⟩) + f ⟨k + 8, by omega⟩) :
    g 8 = g 0 + ∑ n : Fin 16, f n := by
  rw [h 7 (by omega), h 6 (by omega), h 5 (by omega), h 4 (by omega), h 3 (by omega),
    h 2 (by omega), h 1 (by omega), h 0 (by omega)]
  simp only [Fin.sum_univ_castSucc, Fin.sum_univ_zero, zero_add]
  show _ = _
  simp only [Fin.castSucc, Fin.last, Fin.castAdd, Fin.castLE]
  ac_rfl

variable
    (𝒱 : Variants) (c : Dev nD) (bd : Option 𝒱.V) (i : grid0.Coords)
    (arg1 : Memref sig .tc .vmem S1x2048x256 .f32) (harg1 : arg1.IsWhole)
    (arg2 : Memref sig .tc .vmem S256x512 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S1x256 .f32) (harg5 : arg5.IsWhole)
    (arg6 : Memref sig .tc .vmem S256x48 .f32) (harg6 : arg6.IsWhole)
    (arg7 : Memref sig .tc .vmem S16x256 .f32) (harg7 : arg7.IsWhole)
    (arg8 : Memref sig .tc .vmem S1x256 .f32) (harg8 : arg8.IsWhole)
    (arg9 : Memref sig .tc .vmem S16x256 .f32) (harg9 : arg9.IsWhole)
    (arg10 : Memref sig .tc .vmem S1x256 .f32) (harg10 : arg10.IsWhole)
    (arg11 : Memref sig .tc .vmem S256x256 .f32) (harg11 : arg11.IsWhole)
    (arg12 : Memref sig .tc .vmem S256x512 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S1x256 .f32) (harg15 : arg15.IsWhole)
    (arg16 : Memref sig .tc .vmem S256x48 .f32) (harg16 : arg16.IsWhole)
    (arg17 : Memref sig .tc .vmem S16x256 .f32) (harg17 : arg17.IsWhole)
    (arg18 : Memref sig .tc .vmem S1x256 .f32) (harg18 : arg18.IsWhole)
    (arg19 : Memref sig .tc .vmem S16x256 .f32) (harg19 : arg19.IsWhole)
    (arg20 : Memref sig .tc .vmem S1x256 .f32) (harg20 : arg20.IsWhole)
    (arg21 : Memref sig .tc .vmem S256x256 .f32) (harg21 : arg21.IsWhole)
    (arg22 : Memref sig .tc .vmem S1x2048x256 .f32) (harg22 : arg22.IsWhole)

section forward

variable
    (v11 : FVec Ideal S256x48 .f32) (v13 : FVec Ideal S16x256 .f32)
    (v15 : FVec Ideal S1x256 .f32) (v17 : FVec Ideal S1x256 .f32)
    (v19 : FVec Ideal S256x256 .f32) (v22 : FVec Ideal S2048x256 .f32)
    (v34 : FVec Ideal S2048x256 .f32) (cst_21 : FVec Ideal S2048x48 .f32)
    (X_arg9 : BufTy.Contents (Elt Ideal) arg9.view.ty)

/-- Forward trip `k` adds the contributions of the states `k` and `k + 8`. -/
theorem trip1_apply (k : Fin k0_t1_loop.trips) (hk : k.val < 8) (acc : FVec Ideal S2048x256 .f32)
    (s : Fin 2048) (j : Fin 256) :
    (trip_k0_t1 (F := Ideal)
      𝒱 c bd i arg1 harg1 arg2 harg2 arg3 harg3 arg4 harg4 arg5 harg5 arg6 harg6 arg7 harg7 arg8
      harg8 arg9 harg9 arg10 harg10 arg11 harg11 arg12 harg12 arg13 harg13 arg14 harg14 arg15
      harg15 arg16 harg16 arg17 harg17 arg18 harg18 arg19 harg19 arg20 harg20 arg21 harg21 arg22
      harg22
      v11 v13 v15 v17 v19 v22 v34 cst_21
      (iota Kind.tc S48x512 32 [0] iota_S48x512_d0_w32) X_arg9 k).1 acc (ix2 s j)
      = (acc (ix2 s j)
          + term (k0_pay50 v11 v13 v15 v34 cst_21) v34 (k0_pay49 v11 v34 cst_21)
              (fun n j => arg9.view.read (Elt Ideal) X_arg9 (ix2 n j)) s j ⟨k.val, by omega⟩)
        + term (k0_pay50 v11 v13 v15 v34 cst_21) v34 (k0_pay49 v11 v34 cst_21)
              (fun n j => arg9.view.read (Elt Ideal) X_arg9 (ix2 n j)) s j ⟨k.val + 8, by omega⟩ := by
  unfold trip_k0_t1
  refine forward_trip _ _ _ k hk _ (fun r l => ?_) _ _ acc s j v34 _
    (k0_pay50_nonneg v11 v13 v15 v34 cst_21) _ (fun s l => ?_) (fun s l => ?_) (fun j => ?_)
    (fun j => ?_)
  · pointwise
  · unfold half
    pointwise [k0_pay51]
  · unfold half
    pointwise [k0_pay52]
  · have h : ∀ k : Fin k0_t1_loop.trips, k0_off1 k 0 = k.val ∧ k0_off1 k 1 = 0 := by
      decide +kernel
    exact row_at _ _ _ _ _ _ (h k).1 (h k).2 j
  · have h : ∀ k : Fin k0_t1_loop.trips, k0_off2 k 0 = k.val + 8 ∧ k0_off2 k 1 = 0 := by
      decide +kernel
    exact row_at _ _ _ _ _ _ (h k).1 (h k).2 j

/-- The forward output after the eight trips. -/
theorem loop1_apply (init : FVec Ideal S2048x256 .f32) (s : Fin 2048) (j : Fin 256) :
    st_k0_t1 (F := Ideal)
      𝒱 c bd i arg1 harg1 arg2 harg2 arg3 harg3 arg4 harg4 arg5 harg5 arg6 harg6 arg7 harg7 arg8
      harg8 arg9 harg9 arg10 harg10 arg11 harg11 arg12 harg12 arg13 harg13 arg14 harg14 arg15
      harg15 arg16 harg16 arg17 harg17 arg18 harg18 arg19 harg19 arg20 harg20 arg21 harg21 arg22
      harg22
      v11 v13 v15 v17 v19 v22 v34 cst_21
      (iota Kind.tc S48x512 32 [0] iota_S48x512_d0_w32) X_arg9 init 8 (ix2 s j)
      = init (ix2 s j) + ∑ n : Fin 16,
          term (k0_pay50 v11 v13 v15 v34 cst_21) v34 (k0_pay49 v11 v34 cst_21)
              (fun n j => arg9.view.read (Elt Ideal) X_arg9 (ix2 n j)) s j n := by
  have ht : k0_t1_loop.trips = 8 := by decide +kernel
  refine eight_trips (fun m => st_k0_t1 (F := Ideal)
      𝒱 c bd i arg1 harg1 arg2 harg2 arg3 harg3 arg4 harg4 arg5 harg5 arg6 harg6 arg7 harg7 arg8
      harg8 arg9 harg9 arg10 harg10 arg11 harg11 arg12 harg12 arg13 harg13 arg14 harg14 arg15
      harg15 arg16 harg16 arg17 harg17 arg18 harg18 arg19 harg19 arg20 harg20 arg21 harg21 arg22
      harg22
      v11 v13 v15 v17 v19 v22 v34 cst_21
      (iota Kind.tc S48x512 32 [0] iota_S48x512_d0_w32) X_arg9 init m (ix2 s j)) _ fun k hk => ?_
  exact (congrFun (st_k0_t1_succ (F := Ideal)
      𝒱 c bd i arg1 harg1 arg2 harg2 arg3 harg3 arg4 harg4 arg5 harg5 arg6 harg6 arg7 harg7 arg8
      harg8 arg9 harg9 arg10 harg10 arg11 harg11 arg12 harg12 arg13 harg13 arg14 harg14 arg15
      harg15 arg16 harg16 arg17 harg17 arg18 harg18 arg19 harg19 arg20 harg20 arg21 harg21 arg22
      harg22
      v11 v13 v15 v17 v19 v22 v34 cst_21
      (iota Kind.tc S48x512 32 [0] iota_S48x512_d0_w32) X_arg9 init ⟨k, by omega⟩) (ix2 s j)).trans (trip1_apply
      𝒱 c bd i arg1 harg1 arg2 harg2 arg3 harg3 arg4 harg4 arg5 harg5 arg6 harg6 arg7 harg7 arg8
      harg8 arg9 harg9 arg10 harg10 arg11 harg11 arg12 harg12 arg13 harg13 arg14 harg14 arg15
      harg15 arg16 harg16 arg17 harg17 arg18 harg18 arg19 harg19 arg20 harg20 arg21 harg21 arg22
      harg22
      v11 v13 v15 v17 v19 v22 v34 cst_21
      X_arg9 ⟨k, by omega⟩ hk _ s j)

end forward

section backward

variable
    (v103 : FVec Ideal S2048x256 .f32) (v104 : FVec Ideal S2048x48 .f32)
    (v110 : FVec Ideal S2048x256 .f32) (v113 : IVec S2048x256 1)
    (v115 : FVec Ideal S2048x256 .f32) (v120 : FVec Ideal S2048x256 .f32)
    (X_arg19 : BufTy.Contents (Elt Ideal) arg19.view.ty)

/-- Backward trip `k` adds the contributions of the states `k` and `k + 8`. -/
theorem trip2_apply (k : Fin k0_t2_loop.trips) (hk : k.val < 8) (acc : FVec Ideal S2048x256 .f32)
    (hdt : ∀ i, 0 ≤ k0_pay1 v110 v113 v115 v120 i) (s : Fin 2048) (j : Fin 256) :
    (trip_k0_t2 (F := Ideal)
      𝒱 c bd i arg1 harg1 arg2 harg2 arg3 harg3 arg4 harg4 arg5 harg5 arg6 harg6 arg7 harg7 arg8
      harg8 arg9 harg9 arg10 harg10 arg11 harg11 arg12 harg12 arg13 harg13 arg14 harg14 arg15
      harg15 arg16 harg16 arg17 harg17 arg18 harg18 arg19 harg19 arg20 harg20 arg21 harg21 arg22
      harg22
      v103 v104 v110 v113 v115 v120
      (iota Kind.tc S48x512 32 [0] iota_S48x512_d0_w32) X_arg19 k).1 acc (ix2 s j)
      = (acc (ix2 s j)
          + termR (k0_pay1 v110 v113 v115 v120) v103 v104
              (fun n j => arg19.view.read (Elt Ideal) X_arg19 (ix2 n j)) s j ⟨k.val, by omega⟩)
        + termR (k0_pay1 v110 v113 v115 v120) v103 v104
              (fun n j => arg19.view.read (Elt Ideal) X_arg19 (ix2 n j)) s j ⟨k.val + 8, by omega⟩ := by
  unfold trip_k0_t2
  refine backward_trip _ _ _ k hk _ (fun r l => ?_) _ _ acc s j v103 _
    hdt _ (fun s l => ?_) (fun s l => ?_) (fun j => ?_)
    (fun j => ?_)
  · pointwise
  · unfold half
    pointwise [k0_pay2]
  · unfold half
    pointwise [k0_pay3]
  · have h : ∀ k : Fin k0_t2_loop.trips, k0_off3 k 0 = k.val ∧ k0_off3 k 1 = 0 := by
      decide +kernel
    exact row_at _ _ _ _ _ _ (h k).1 (h k).2 j
  · have h : ∀ k : Fin k0_t2_loop.trips, k0_off4 k 0 = k.val + 8 ∧ k0_off4 k 1 = 0 := by
      decide +kernel
    exact row_at _ _ _ _ _ _ (h k).1 (h k).2 j

/-- The backward output after the eight trips. -/
theorem loop2_apply (init : FVec Ideal S2048x256 .f32) (hdt : ∀ i, 0 ≤ k0_pay1 v110 v113 v115 v120 i) (s : Fin 2048) (j : Fin 256) :
    st_k0_t2 (F := Ideal)
      𝒱 c bd i arg1 harg1 arg2 harg2 arg3 harg3 arg4 harg4 arg5 harg5 arg6 harg6 arg7 harg7 arg8
      harg8 arg9 harg9 arg10 harg10 arg11 harg11 arg12 harg12 arg13 harg13 arg14 harg14 arg15
      harg15 arg16 harg16 arg17 harg17 arg18 harg18 arg19 harg19 arg20 harg20 arg21 harg21 arg22
      harg22
      v103 v104 v110 v113 v115 v120
      (iota Kind.tc S48x512 32 [0] iota_S48x512_d0_w32) X_arg19 init 8 (ix2 s j)
      = init (ix2 s j) + ∑ n : Fin 16,
          termR (k0_pay1 v110 v113 v115 v120) v103 v104
              (fun n j => arg19.view.read (Elt Ideal) X_arg19 (ix2 n j)) s j n := by
  have ht : k0_t2_loop.trips = 8 := by decide +kernel
  refine eight_trips (fun m => st_k0_t2 (F := Ideal)
      𝒱 c bd i arg1 harg1 arg2 harg2 arg3 harg3 arg4 harg4 arg5 harg5 arg6 harg6 arg7 harg7 arg8
      harg8 arg9 harg9 arg10 harg10 arg11 harg11 arg12 harg12 arg13 harg13 arg14 harg14 arg15
      harg15 arg16 harg16 arg17 harg17 arg18 harg18 arg19 harg19 arg20 harg20 arg21 harg21 arg22
      harg22
      v103 v104 v110 v113 v115 v120
      (iota Kind.tc S48x512 32 [0] iota_S48x512_d0_w32) X_arg19 init m (ix2 s j)) _ fun k hk => ?_
  exact (congrFun (st_k0_t2_succ (F := Ideal)
      𝒱 c bd i arg1 harg1 arg2 harg2 arg3 harg3 arg4 harg4 arg5 harg5 arg6 harg6 arg7 harg7 arg8
      harg8 arg9 harg9 arg10 harg10 arg11 harg11 arg12 harg12 arg13 harg13 arg14 harg14 arg15
      harg15 arg16 harg16 arg17 harg17 arg18 harg18 arg19 harg19 arg20 harg20 arg21 harg21 arg22
      harg22
      v103 v104 v110 v113 v115 v120
      (iota Kind.tc S48x512 32 [0] iota_S48x512_d0_w32) X_arg19 init ⟨k, by omega⟩) (ix2 s j)).trans (trip2_apply
      𝒱 c bd i arg1 harg1 arg2 harg2 arg3 harg3 arg4 harg4 arg5 harg5 arg6 harg6 arg7 harg7 arg8
      harg8 arg9 harg9 arg10 harg10 arg11 harg11 arg12 harg12 arg13 harg13 arg14 harg14 arg15
      harg15 arg16 harg16 arg17 harg17 arg18 harg18 arg19 harg19 arg20 harg20 arg21 harg21 arg22
      harg22
      v103 v104 v110 v113 v115 v120
      X_arg19 ⟨k, by omega⟩ hk _ hdt s j)

end backward

end Cert.KernelIdeal.Gen
-- ==== Proof.KernelRead.lean ====
module

public import proofs.«01_k».proof.Proof.Block
public import proofs.«01_k».proof.Proof.LoopSum

/-!
# The kernel's stages, at a step and a channel

Each stage of the kernel around its loops is the corresponding function of `Block`: forward on the
block as it stands, backward on the reversed block, read at the step counted from the other end.
-/

@[expose] public section

set_option maxRecDepth 16384

open Idealize.ShloMosaic Cert.Scan Cert.Mamba

namespace Cert.KernelIdeal.Gen

/-- The rows of a `[1, 2048, 256]` block. -/
def rows (x : FVec Ideal S1x2048x256 .f32) (t : Fin 2048) (d : Fin 256) : EReal := x (ix3 0 t d)

/-- Operands that hold one direction's weights, transposed or as one row each. -/
structure Holds (w : Weights) (x1 : FVec Ideal S256x512 .f32) (x2 x3 x4 : FVec Ideal S1x256 .f32)
    (x5 : FVec Ideal S256x48 .f32) (x6 : FVec Ideal S16x256 .f32) (x7 : FVec Ideal S1x256 .f32)
    (x8 : FVec Ideal S16x256 .f32) (x9 : FVec Ideal S1x256 .f32) (x10 : FVec Ideal S256x256 .f32) :
    Prop where
  inw : ∀ d e, x1 (ix2 d e) = w.inw e d
  w0 : ∀ j, x2 (ix2 0 j) = w.w0 j
  w1 : ∀ j, x3 (ix2 0 j) = w.w1 j
  cb : ∀ j, x4 (ix2 0 j) = w.cb j
  xw : ∀ d k, x5 (ix2 d k) = w.xw k d
  dw : ∀ r j, x6 (ix2 r j) = w.dw j r
  db : ∀ j, x7 (ix2 0 j) = w.db j
  al : ∀ n j, x8 (ix2 n j) = w.al j n
  skip : ∀ j, x9 (ix2 0 j) = w.skip j
  ow : ∀ j i, x10 (ix2 j i) = w.ow i j

variable {w : Weights} {x1 : FVec Ideal S256x512 .f32} {x2 x3 x4 : FVec Ideal S1x256 .f32}
  {x5 : FVec Ideal S256x48 .f32} {x6 : FVec Ideal S16x256 .f32} {x7 : FVec Ideal S1x256 .f32}
  {x8 : FVec Ideal S16x256 .f32} {x9 : FVec Ideal S1x256 .f32} {x10 : FVec Ideal S256x256 .f32}

/-! ## Forward -/

/-- The input projection. -/
theorem pay46_apply (h : Holds w x1 x2 x3 x4 x5 x6 x7 x8 x9 x10) (x0 : FVec Ideal S1x2048x256 .f32)
    (s : Fin 2048) (e : Fin 512) : k0_pay46 (F := Ideal) x0 x1 (ix2 s e) = proj w (rows x0) s e := by
  unfold proj rows
  pointwise [k0_pay46, k0_pay40]
  simp only [h.inw]

/-- The gated convolution. -/
theorem pay48_apply (h : Holds w x1 x2 x3 x4 x5 x6 x7 x8 x9 x10) (x0 : FVec Ideal S1x2048x256 .f32)
    (s : Fin 2048) (j : Fin 256) : k0_pay48 (F := Ideal) x0 x1 x2 x3 x4 (ix2 s j) = xc w (rows x0) s j := by
  unfold xc prev silu
  pointwise [k0_pay48]
  simp only [pay46_apply h, h.w0, h.w1, h.cb]
  rfl

/-- Step size code and coefficients. -/
theorem pay49_apply (h : Holds w x1 x2 x3 x4 x5 x6 x7 x8 x9 x10) (X : Fin 2048 → Fin 256 → EReal)
    (v : FVec Ideal S2048x256 .f32) (hv : ∀ s j, v (ix2 s j) = xc w X s j) (s : Fin 2048) (k : Fin 48) :
    k0_pay49 (k0_pay41 x5) v (constant S2048x48 .f32 0x00000000#32) (ix2 s k) = dbc w X s k := by
  unfold dbc
  pointwise [k0_pay49, k0_pay41]
  simp only [h.xw, hv]

/-- The step size. -/
theorem pay50_apply (h : Holds w x1 x2 x3 x4 x5 x6 x7 x8 x9 x10) (X : Fin 2048 → Fin 256 → EReal)
    (v : FVec Ideal S2048x256 .f32) (hv : ∀ s j, v (ix2 s j) = xc w X s j) (s : Fin 2048) (j : Fin 256) :
    k0_pay50 (k0_pay41 x5) (k0_pay42 x6) (k0_pay43 x7) v (constant S2048x48 .f32 0x00000000#32) (ix2 s j)
      = dt w X s j := by
  unfold dt softplus
  pointwise [k0_pay50, k0_pay42, k0_pay43]
  rw [if_neg (not_not.2 rfl)]
  simp only [h.dw, h.db, pay49_apply h X v hv, zero_sub]

/-- The forward direction's output, from the loop's. -/
theorem pay56_apply (h : Holds w x1 x2 x3 x4 x5 x6 x7 x8 x9 x10) (x0 : FVec Ideal S1x2048x256 .f32)
    (v y : FVec Ideal S2048x256 .f32) (hv : ∀ s j, v (ix2 s j) = xc w (rows x0) s j)
    (hy : ∀ s j, y (ix2 s j) = mix w (rows x0) s j) (s : Fin 2048) (i : Fin 256) :
    k0_pay56 (k0_pay44 x9) (k0_pay45 x10) (k0_pay47 x0 x1) v y (ix2 s i) = out w (rows x0) s i := by
  unfold out gated silu
  pointwise [k0_pay56, k0_pay44, k0_pay45, k0_pay47]
  simp only [h.skip, h.ow, pay46_apply h, hv, hy]

/-! ## The readouts -/

/-- The forward loop's sum is the mix of the states. -/
theorem term_sum (X : Fin 2048 → Fin 256 → EReal) (δ x : FVec Ideal S2048x256 .f32)
    (v : FVec Ideal S2048x48 .f32) (al : Fin 16 → Fin 256 → EReal)
    (hδ : ∀ s j, δ (ix2 s j) = dt w X s j) (hx : ∀ s j, x (ix2 s j) = xc w X s j)
    (hv : ∀ s k, v (ix2 s k) = dbc w X s k) (hal : ∀ n j, al n j = w.al j n)
    (s : Fin 2048) (j : Fin 256) : ∑ n : Fin 16, term δ x v al s j n = mix w X s j := by
  unfold mix latent
  refine Finset.sum_congr rfl fun n _ => ?_
  unfold term
  have h1 : mult δ (al n j) j = decay w X j n := by
    funext t
    unfold mult decay
    rw [hδ, hal, zero_sub]
  have h2 : offs δ x v n j = drive w X j n := by
    funext t
    unfold offs drive
    rw [hδ, hx, hv]
  rw [h1, h2, hv]

/-- The backward loop's sum is the mix of the reversed sequence's states. -/
theorem termR_sum (X : Fin 2048 → Fin 256 → EReal) (δ x : FVec Ideal S2048x256 .f32)
    (v : FVec Ideal S2048x48 .f32) (al : Fin 16 → Fin 256 → EReal)
    (hδ : ∀ s j, δ (ix2 s j) = dt w X (back s) j) (hx : ∀ s j, x (ix2 s j) = xc w X (back s) j)
    (hv : ∀ s k, v (ix2 s k) = dbc w X (back s) k) (hal : ∀ n j, al n j = w.al j n)
    (s : Fin 2048) (j : Fin 256) : ∑ n : Fin 16, termR δ x v al s j n = mix w X (back s) j := by
  unfold mix latent
  refine Finset.sum_congr rfl fun n _ => ?_
  unfold termR downTo
  have h1 : (fun s : Fin 2048 => mult δ (al n j) j ⟨2047 - s.val, by omega⟩) = decay w X j n := by
    funext t
    change mult δ (al n j) j (back t) = _
    unfold mult decay
    rw [hδ, hal, zero_sub, back_back]
  have h2 : (fun s : Fin 2048 => offs δ x v n j ⟨2047 - s.val, by omega⟩) = drive w X j n := by
    funext t
    change offs δ x v n j (back t) = _
    unfold offs drive
    rw [hδ, hx, hv, back_back]
  rw [h1, h2, hv]
  rfl

/-! ## Backward -/

/-- The rows from the last to the first. -/
def rowsR (x : FVec Ideal S1x2048x256 .f32) (t : Fin 2048) : Fin 256 → EReal := rows x (back t)

/-- The input projection. -/
theorem pay62_apply (h : Holds w x1 x2 x3 x4 x5 x6 x7 x8 x9 x10) (x0 : FVec Ideal S1x2048x256 .f32)
    (s : Fin 2048) (e : Fin 512) :
    k0_pay62 (F := Ideal) (k0_pay40 x0) (k0_pay57 x1) (ix2 s e) = proj w (rowsR x0) (back s) e := by
  unfold proj rowsR
  rw [back_back]
  unfold rows
  pointwise [k0_pay62, k0_pay40, k0_pay57]
  simp only [h.inw]

/-- The gated convolution. -/
theorem pay64_apply (h : Holds w x1 x2 x3 x4 x5 x6 x7 x8 x9 x10) (x0 : FVec Ideal S1x2048x256 .f32)
    (s : Fin 2048) (j : Fin 256) :
    k0_pay64 (F := Ideal) (k0_pay40 x0) (k0_pay57 x1) (k0_pay58 x2) (k0_pay59 x3) x4 (ix2 s j)
      = xc w (rowsR x0) (back s) j := by
  unfold xc prev silu
  pointwise [k0_pay64, k0_pay58, k0_pay59]
  simp only [pay62_apply h, h.w0, h.w1, h.cb]
  have key : ∀ f : Fin 2048 → EReal, (if h : s.val < 2047 then f (back ⟨1 + s.val, by omega⟩) else 0)
      = if (back s).val < 1 then 0 else f ⟨(back s).val - 1, by omega⟩ := by
    intro f
    by_cases hs : s.val < 2047
    · rw [dif_pos hs, if_neg (by simp only [back]; omega)]
      exact congrArg f (Fin.ext (by simp only [back]; omega))
    · rw [dif_neg hs, if_pos (by simp only [back]; omega)]
  have e := key fun t => proj w (rowsR x0) t ⟨j.val, by omega⟩
  rw [e]

/-- Step size code and coefficients. -/
theorem pay65_apply (h : Holds w x1 x2 x3 x4 x5 x6 x7 x8 x9 x10) (x0 : FVec Ideal S1x2048x256 .f32)
    (s : Fin 2048) (k : Fin 48) :
    k0_pay65 (F := Ideal) (k0_pay40 x0) (k0_pay57 x1) (k0_pay58 x2) (k0_pay59 x3) x4 x5 (ix2 s k)
      = dbc w (rowsR x0) (back s) k := by
  unfold dbc
  pointwise [k0_pay65]
  simp only [h.xw, pay64_apply h]

/-- The step size. -/
theorem pay1_apply (h : Holds w x1 x2 x3 x4 x5 x6 x7 x8 x9 x10) (x0 : FVec Ideal S1x2048x256 .f32)
    (s : Fin 2048) (j : Fin 256) :
    k0_pay1 (F := Ideal)
      (k0_pay67 (F := Ideal) (k0_pay40 x0) (k0_pay57 x1) (k0_pay58 x2) (k0_pay59 x3) x4 x5 x6 x7)
      (k0_pay69 (F := Ideal) (k0_pay40 x0) (k0_pay57 x1) (k0_pay58 x2) (k0_pay59 x3) x4 x5 x6 x7)
      (k0_pay70 (F := Ideal) (k0_pay40 x0) (k0_pay57 x1) (k0_pay58 x2) (k0_pay59 x3) x4 x5 x6 x7)
      (k0_pay71 (F := Ideal) (k0_pay40 x0) (k0_pay57 x1) (k0_pay58 x2) (k0_pay59 x3) x4 x5 x6 x7) (ix2 s j)
      = dt w (rowsR x0) (back s) j := by
  have h66 : k0_pay66 (F := Ideal) (k0_pay40 x0) (k0_pay57 x1) (k0_pay58 x2) (k0_pay59 x3) x4 x5 x6 x7
      (ix2 s j) = (∑ r : Fin 16, dbc w (rowsR x0) (back s) ⟨r.val, by omega⟩ * w.dw j r) + w.db j := by
    pointwise [k0_pay66]
    simp only [h.dw, h.db, pay65_apply h]
  unfold dt softplus
  pointwise [k0_pay1, k0_pay67, k0_pay68, k0_pay69, k0_pay70, k0_pay71]
  rw [if_neg (not_not.2 rfl)]
  simp only [h66, zero_sub, sub_zero]

/-- The stored block: the forward output plus the backward one. -/
theorem pay7_apply (h : Holds w x1 x2 x3 x4 x5 x6 x7 x8 x9 x10) (x0 : FVec Ideal S1x2048x256 .f32)
    (o v y : FVec Ideal S2048x256 .f32) (hv : ∀ s j, v (ix2 s j) = xc w (rowsR x0) (back s) j)
    (hy : ∀ s j, y (ix2 s j) = mix w (rowsR x0) (back s) j) (s : Fin 2048) (i : Fin 256) :
    k0_pay7 o (k0_pay60 x9) (k0_pay61 x10) (k0_pay63 (k0_pay40 x0) (k0_pay57 x1)) v y (ix3 0 s i)
      = o (ix2 s i) + out w (rowsR x0) (back s) i := by
  unfold out gated silu
  pointwise [k0_pay7, k0_pay60, k0_pay61, k0_pay63]
  simp only [h.skip, h.ow, pay62_apply h, hv, hy]

end Cert.KernelIdeal.Gen
-- ==== Proof.KernelOut.lean ====
module

public import proofs.«01_k».proof.Proof.KernelRead
public import proofs.«01_k».proof.Proof.Gen.KernelIdeal.Frame

/-!
# What one grid point writes

The block the kernel body stores at a grid point, as a function of the operands' blocks: the two
directions' outputs, added.
-/

@[expose] public section

set_option maxRecDepth 16384

open Idealize.ShloMosaic Idealize.ShloMosaic.Tactic Cert.Scan Cert.Mamba

namespace Cert.KernelIdeal.Gen

private theorem hz : (![0, 0] : Fin 2 → ℕ) = fun _ => 0 := funext fun a => by fin_cases a <;> rfl

private theorem hz3 : (![0, 0, 0] : Fin 3 → ℕ) = fun _ => 0 := funext fun a => by fin_cases a <;> rfl

variable (c : Dev nD) (i : grid0.Coords) (arg1 : Memref sig .tc .vmem S1x2048x256 .f32)
  (harg1 : arg1.IsWhole) (arg2 : Memref sig .tc .vmem S256x512 .f32) (harg2 : arg2.IsWhole)
  (arg3 : Memref sig .tc .vmem S1x256 .f32) (harg3 : arg3.IsWhole)
  (arg4 : Memref sig .tc .vmem S1x256 .f32) (harg4 : arg4.IsWhole)
  (arg5 : Memref sig .tc .vmem S1x256 .f32) (harg5 : arg5.IsWhole)
  (arg6 : Memref sig .tc .vmem S256x48 .f32) (harg6 : arg6.IsWhole)
  (arg7 : Memref sig .tc .vmem S16x256 .f32) (harg7 : arg7.IsWhole)
  (arg8 : Memref sig .tc .vmem S1x256 .f32) (harg8 : arg8.IsWhole)
  (arg9 : Memref sig .tc .vmem S16x256 .f32) (harg9 : arg9.IsWhole)
  (arg10 : Memref sig .tc .vmem S1x256 .f32) (harg10 : arg10.IsWhole)
  (arg11 : Memref sig .tc .vmem S256x256 .f32) (harg11 : arg11.IsWhole)
  (arg12 : Memref sig .tc .vmem S256x512 .f32) (harg12 : arg12.IsWhole)
  (arg13 : Memref sig .tc .vmem S1x256 .f32) (harg13 : arg13.IsWhole)
  (arg14 : Memref sig .tc .vmem S1x256 .f32) (harg14 : arg14.IsWhole)
  (arg15 : Memref sig .tc .vmem S1x256 .f32) (harg15 : arg15.IsWhole)
  (arg16 : Memref sig .tc .vmem S256x48 .f32) (harg16 : arg16.IsWhole)
  (arg17 : Memref sig .tc .vmem S16x256 .f32) (harg17 : arg17.IsWhole)
  (arg18 : Memref sig .tc .vmem S1x256 .f32) (harg18 : arg18.IsWhole)
  (arg19 : Memref sig .tc .vmem S16x256 .f32) (harg19 : arg19.IsWhole)
  (arg20 : Memref sig .tc .vmem S1x256 .f32) (harg20 : arg20.IsWhole)
  (arg21 : Memref sig .tc .vmem S256x256 .f32) (harg21 : arg21.IsWhole)
  (arg22 : Memref sig .tc .vmem S1x2048x256 .f32) (harg22 : arg22.IsWhole)
  (x0 : FVec Ideal S1x2048x256 .f32) (x1 : FVec Ideal S256x512 .f32)
  (x2 : FVec Ideal S1x256 .f32) (x3 : FVec Ideal S1x256 .f32) (x4 : FVec Ideal S1x256 .f32)
  (x5 : FVec Ideal S256x48 .f32) (x6 : FVec Ideal S16x256 .f32) (x7 : FVec Ideal S1x256 .f32)
  (x8 : FVec Ideal S16x256 .f32) (x9 : FVec Ideal S1x256 .f32) (x10 : FVec Ideal S256x256 .f32)
  (x11 : FVec Ideal S256x512 .f32) (x12 : FVec Ideal S1x256 .f32) (x13 : FVec Ideal S1x256 .f32)
  (x14 : FVec Ideal S1x256 .f32) (x15 : FVec Ideal S256x48 .f32) (x16 : FVec Ideal S16x256 .f32)
  (x17 : FVec Ideal S1x256 .f32) (x18 : FVec Ideal S16x256 .f32) (x19 : FVec Ideal S1x256 .f32)
  (x20 : FVec Ideal S256x256 .f32)

/-- The stored block, at a step and a channel: the forward direction on the block's rows plus the
backward one on the reversed rows. -/
theorem out0_apply (f r : Weights) (hf : Holds f x1 x2 x3 x4 x5 x6 x7 x8 x9 x10)
    (hr : Holds r x11 x12 x13 x14 x15 x16 x17 x18 x19 x20) (s : Fin 2048) (j : Fin 256) :
    out0_A_21 (F := Ideal)
      c i arg1 harg1 arg2 harg2 arg3 harg3 arg4 harg4 arg5 harg5 arg6 harg6 arg7 harg7 arg8 harg8
      arg9 harg9 arg10 harg10 arg11 harg11 arg12 harg12 arg13 harg13 arg14 harg14 arg15 harg15
      arg16 harg16 arg17 harg17 arg18 harg18 arg19 harg19 arg20 harg20 arg21 harg21 arg22 harg22
      x0 x1 x2 x3 x4 x5 x6 x7 x8 x9 x10 x11 x12 x13 x14 x15 x16 x17 x18 x19 x20 (ix3 0 s j)
      = both (rows x0) f r s j := by
  unfold out0_A_21
  rw [View.read_writes_eq_canon _ _ _ (cover0_A_21 (F := Ideal)
    c i arg1 harg1 arg2 harg2 arg3 harg3 arg4 harg4 arg5 harg5 arg6 harg6 arg7 harg7 arg8 harg8
    arg9 harg9 arg10 harg10 arg11 harg11 arg12 harg12 arg13 harg13 arg14 harg14 arg15 harg15
    arg16 harg16 arg17 harg17 arg18 harg18 arg19 harg19 arg20 harg20 arg21 harg21 arg22 harg22 x0
    x1 x2 x3 x4 x5 x6 x7 x8 x9 x10 x11 x12 x13 x14 x15 x16 x17 x18 x19 x20)]
  unfold kernelRun0_A
  sl_unfold_words
  dsimp only
  rw [View.canon_unit_zero (S := S1x2048x256) hz3]
  simp only [View.readAt_eq_ld,
    harg1.read_unread (Val := Elt Ideal) x0, harg2.read_unread (Val := Elt Ideal) x1,
    harg3.read_unread (Val := Elt Ideal) x2, harg4.read_unread (Val := Elt Ideal) x3,
    harg5.read_unread (Val := Elt Ideal) x4, harg6.read_unread (Val := Elt Ideal) x5,
    harg7.read_unread (Val := Elt Ideal) x6, harg8.read_unread (Val := Elt Ideal) x7,
    harg9.read_unread (Val := Elt Ideal) x8, harg10.read_unread (Val := Elt Ideal) x9,
    harg11.read_unread (Val := Elt Ideal) x10, harg12.read_unread (Val := Elt Ideal) x11,
    harg13.read_unread (Val := Elt Ideal) x12, harg14.read_unread (Val := Elt Ideal) x13,
    harg15.read_unread (Val := Elt Ideal) x14, harg16.read_unread (Val := Elt Ideal) x15,
    harg17.read_unread (Val := Elt Ideal) x16, harg18.read_unread (Val := Elt Ideal) x17,
    harg19.read_unread (Val := Elt Ideal) x18, harg20.read_unread (Val := Elt Ideal) x19,
    harg21.read_unread (Val := Elt Ideal) x20, View.ld_unit_zero (S := S16x256) hz,
    View.ld_unit_zero (S := S1x2048x256) hz3, View.ld_unit_zero (S := S1x256) hz,
    View.ld_unit_zero (S := S256x256) hz, View.ld_unit_zero (S := S256x48) hz,
    View.ld_unit_zero (S := S256x512) hz,
    shapeCast_self]
  have ht : Scf.trips 0#32 (Scalar.addi 0#32 8#32) 1#32 = 8 := by decide +kernel
  rw [ht]
  unfold both
  refine (pay7_apply hr x0 _ _ _ (pay64_apply hr x0) ?_ s j).trans ?_
  · intro s j
    refine (loop2_apply (hdt := ?_) ..).trans ?_
    · intro i
      rw [eq_ix2 i]
      exact (softplus_nonneg _ _).trans (pay1_apply hr x0 (i 0) (i 1)).ge
    · rw [termR_sum (rowsR x0) _ _ _ _ (pay1_apply hr x0) (pay64_apply hr x0) (pay65_apply hr x0)]
      · pointwise [k0_pay5]
      · intro n j
        rw [harg19.read_unread (Val := Elt Ideal) x18]
        exact hr.al n j
  · refine congrArg (· + _) (pay56_apply hf x0 _ _ (pay48_apply hf x0) ?_ s j)
    intro s j
    refine (loop1_apply ..).trans ?_
    rw [term_sum (rows x0) _ _ _ _ (pay50_apply hf _ _ (pay48_apply hf x0)) (pay48_apply hf x0)
      (pay49_apply hf _ _ (pay48_apply hf x0))]
    · pointwise [k0_pay54]
    · intro n j
      rw [harg9.read_unread (Val := Elt Ideal) x8]
      exact hf.al n j

end Cert.KernelIdeal.Gen
-- ==== Proof.ArrayValue.lean ====
module

public import proofs.«01_k».proof.Proof.KernelOut
public import proofs.«01_k».proof.Proof.Gen.KernelIdeal.Value
public import Idealize.ShloMosaic.Lib.Pipeline.ValueKit

/-!
# The kernel's result array

The operands' blocks at a grid point hold one batch entry and the two directions' weights as the host
prepared them, so the array after the run is the block's answer on the arguments.
-/

@[expose] public section

set_option maxRecDepth 16384

open Idealize.ShloMosaic Idealize.ShloMosaic.TcCoe Idealize.SL.Sem Cert.Mamba
open Idealize.ShloMosaic.Pipeline (Dat)

namespace Cert.KernelIdeal.Gen

variable (m : (ℓ : Loc nD τ sig) → Buf (Elt Ideal) ℓ) (c : Dev nD)

/-- The forward weights, from the arguments. -/
def wF : Weights := Weights.ofArrays
  (m ((c : Thread nD τ).loc main_arg1))
  (m ((c : Thread nD τ).loc main_arg2))
  (m ((c : Thread nD τ).loc main_arg3))
  (m ((c : Thread nD τ).loc main_arg4))
  (m ((c : Thread nD τ).loc main_arg5))
  (m ((c : Thread nD τ).loc main_arg6))
  (m ((c : Thread nD τ).loc main_arg7))
  (m ((c : Thread nD τ).loc main_arg8))
  (m ((c : Thread nD τ).loc main_arg9))

/-- The backward weights, from the arguments. -/
def wR : Weights := Weights.ofArrays
  (m ((c : Thread nD τ).loc main_arg10))
  (m ((c : Thread nD τ).loc main_arg11))
  (m ((c : Thread nD τ).loc main_arg12))
  (m ((c : Thread nD τ).loc main_arg13))
  (m ((c : Thread nD τ).loc main_arg14))
  (m ((c : Thread nD τ).loc main_arg15))
  (m ((c : Thread nD τ).loc main_arg16))
  (m ((c : Thread nD τ).loc main_arg17))
  (m ((c : Thread nD τ).loc main_arg18))

/-! ## The operands' blocks -/

private theorem at1 (t : Fin cfg0.N) (d : Fin 256) (k : Fin 512) :
    iblk m c 1 t (ix2 d k) = m ((c : Thread nD τ).loc main_arg1) (ix2 k d) := by
  have e : ∀ t : Fin cfg0.N, win0_1.index t = ![0, 0] := by decide +kernel
  have h : iblk m c 1 t (ix2 d k) = V m c main_call0_v0 (ix2 d k) := by blk_ext [iblk, e]
  rw [h]
  entry_read
  simp -implicitDefEqProofs only [StableHlo.TRef.ofBuf, StableHlo.TRef.toBuf, cast_eq]
  pointwise

private theorem at2 (t : Fin cfg0.N) (j : Fin 256) :
    iblk m c 2 t (ix2 0 j) = m ((c : Thread nD τ).loc main_arg2) (ix2 j 0) := by
  have e : ∀ t : Fin cfg0.N, win0_2.index t = ![0, 0] := by decide +kernel
  have h : iblk m c 2 t (ix2 0 j) = V m c main_call0_v3 (ix2 0 j) := by blk_ext [iblk, e]
  rw [h]
  entry_read
  simp -implicitDefEqProofs only [StableHlo.TRef.ofBuf, StableHlo.TRef.toBuf, cast_eq]
  pointwise

private theorem at3 (t : Fin cfg0.N) (j : Fin 256) :
    iblk m c 3 t (ix2 0 j) = m ((c : Thread nD τ).loc main_arg2) (ix2 j 1) := by
  have e : ∀ t : Fin cfg0.N, win0_3.index t = ![0, 0] := by decide +kernel
  have h : iblk m c 3 t (ix2 0 j) = V m c main_call0_v6 (ix2 0 j) := by blk_ext [iblk, e]
  rw [h]
  entry_read
  simp -implicitDefEqProofs only [StableHlo.TRef.ofBuf, StableHlo.TRef.toBuf, cast_eq]
  pointwise

private theorem at4 (t : Fin cfg0.N) (j : Fin 256) :
    iblk m c 4 t (ix2 0 j) = m ((c : Thread nD τ).loc main_arg3) (ix1 j) := by
  have e : ∀ t : Fin cfg0.N, win0_4.index t = ![0, 0] := by decide +kernel
  have h : iblk m c 4 t (ix2 0 j) = V m c main_call0_v7 (ix2 0 j) := by blk_ext [iblk, e]
  rw [h]
  entry_read
  simp -implicitDefEqProofs only [StableHlo.TRef.ofBuf, StableHlo.TRef.toBuf, cast_eq]
  pointwise

private theorem at5 (t : Fin cfg0.N) (d : Fin 256) (k : Fin 48) :
    iblk m c 5 t (ix2 d k) = m ((c : Thread nD τ).loc main_arg4) (ix2 k d) := by
  have e : ∀ t : Fin cfg0.N, win0_5.index t = ![0, 0] := by decide +kernel
  have h : iblk m c 5 t (ix2 d k) = V m c main_call0_v8 (ix2 d k) := by blk_ext [iblk, e]
  rw [h]
  entry_read
  simp -implicitDefEqProofs only [StableHlo.TRef.ofBuf, StableHlo.TRef.toBuf, cast_eq]
  pointwise

private theorem at6 (t : Fin cfg0.N) (r : Fin 16) (j : Fin 256) :
    iblk m c 6 t (ix2 r j) = m ((c : Thread nD τ).loc main_arg5) (ix2 j r) := by
  have e : ∀ t : Fin cfg0.N, win0_6.index t = ![0, 0] := by decide +kernel
  have h : iblk m c 6 t (ix2 r j) = V m c main_call0_v9 (ix2 r j) := by blk_ext [iblk, e]
  rw [h]
  entry_read
  simp -implicitDefEqProofs only [StableHlo.TRef.ofBuf, StableHlo.TRef.toBuf, cast_eq]
  pointwise

private theorem at7 (t : Fin cfg0.N) (j : Fin 256) :
    iblk m c 7 t (ix2 0 j) = m ((c : Thread nD τ).loc main_arg6) (ix1 j) := by
  have e : ∀ t : Fin cfg0.N, win0_7.index t = ![0, 0] := by decide +kernel
  have h : iblk m c 7 t (ix2 0 j) = V m c main_call0_v10 (ix2 0 j) := by blk_ext [iblk, e]
  rw [h]
  entry_read
  simp -implicitDefEqProofs only [StableHlo.TRef.ofBuf, StableHlo.TRef.toBuf, cast_eq]
  pointwise

private theorem at8 (t : Fin cfg0.N) (n : Fin 16) (j : Fin 256) :
    iblk m c 8 t (ix2 n j) = m ((c : Thread nD τ).loc main_arg7) (ix2 j n) := by
  have e : ∀ t : Fin cfg0.N, win0_8.index t = ![0, 0] := by decide +kernel
  have h : iblk m c 8 t (ix2 n j) = V m c main_call0_v11 (ix2 n j) := by blk_ext [iblk, e]
  rw [h]
  entry_read
  simp -implicitDefEqProofs only [StableHlo.TRef.ofBuf, StableHlo.TRef.toBuf, cast_eq]
  pointwise

private theorem at9 (t : Fin cfg0.N) (j : Fin 256) :
    iblk m c 9 t (ix2 0 j) = m ((c : Thread nD τ).loc main_arg8) (ix1 j) := by
  have e : ∀ t : Fin cfg0.N, win0_9.index t = ![0, 0] := by decide +kernel
  have h : iblk m c 9 t (ix2 0 j) = V m c main_call0_v12 (ix2 0 j) := by blk_ext [iblk, e]
  rw [h]
  entry_read
  simp -implicitDefEqProofs only [StableHlo.TRef.ofBuf, StableHlo.TRef.toBuf, cast_eq]
  pointwise

private theorem at10 (t : Fin cfg0.N) (j i : Fin 256) :
    iblk m c 10 t (ix2 j i) = m ((c : Thread nD τ).loc main_arg9) (ix2 i j) := by
  have e : ∀ t : Fin cfg0.N, win0_10.index t = ![0, 0] := by decide +kernel
  have h : iblk m c 10 t (ix2 j i) = V m c main_call0_v13 (ix2 j i) := by blk_ext [iblk, e]
  rw [h]
  entry_read
  simp -implicitDefEqProofs only [StableHlo.TRef.ofBuf, StableHlo.TRef.toBuf, cast_eq]
  pointwise

private theorem at11 (t : Fin cfg0.N) (d : Fin 256) (k : Fin 512) :
    iblk m c 11 t (ix2 d k) = m ((c : Thread nD τ).loc main_arg10) (ix2 k d) := by
  have e : ∀ t : Fin cfg0.N, win0_11.index t = ![0, 0] := by decide +kernel
  have h : iblk m c 11 t (ix2 d k) = V m c main_call0_v14 (ix2 d k) := by blk_ext [iblk, e]
  rw [h]
  entry_read
  simp -implicitDefEqProofs only [StableHlo.TRef.ofBuf, StableHlo.TRef.toBuf, cast_eq]
  pointwise

private theorem at12 (t : Fin cfg0.N) (j : Fin 256) :
    iblk m c 12 t (ix2 0 j) = m ((c : Thread nD τ).loc main_arg11) (ix2 j 0) := by
  have e : ∀ t : Fin cfg0.N, win0_12.index t = ![0, 0] := by decide +kernel
  have h : iblk m c 12 t (ix2 0 j) = V m c main_call0_v17 (ix2 0 j) := by blk_ext [iblk, e]
  rw [h]
  entry_read
  simp -implicitDefEqProofs only [StableHlo.TRef.ofBuf, StableHlo.TRef.toBuf, cast_eq]
  pointwise

private theorem at13 (t : Fin cfg0.N) (j : Fin 256) :
    iblk m c 13 t (ix2 0 j) = m ((c : Thread nD τ).loc main_arg11) (ix2 j 1) := by
  have e : ∀ t : Fin cfg0.N, win0_13.index t = ![0, 0] := by decide +kernel
  have h : iblk m c 13 t (ix2 0 j) = V m c main_call0_v20 (ix2 0 j) := by blk_ext [iblk, e]
  rw [h]
  entry_read
  simp -implicitDefEqProofs only [StableHlo.TRef.ofBuf, StableHlo.TRef.toBuf, cast_eq]
  pointwise

private theorem at14 (t : Fin cfg0.N) (j : Fin 256) :
    iblk m c 14 t (ix2 0 j) = m ((c : Thread nD τ).loc main_arg12) (ix1 j) := by
  have e : ∀ t : Fin cfg0.N, win0_14.index t = ![0, 0] := by decide +kernel
  have h : iblk m c 14 t (ix2 0 j) = V m c main_call0_v21 (ix2 0 j) := by blk_ext [iblk, e]
  rw [h]
  entry_read
  simp -implicitDefEqProofs only [StableHlo.TRef.ofBuf, StableHlo.TRef.toBuf, cast_eq]
  pointwise

private theorem at15 (t : Fin cfg0.N) (d : Fin 256) (k : Fin 48) :
    iblk m c 15 t (ix2 d k) = m ((c : Thread nD τ).loc main_arg13) (ix2 k d) := by
  have e : ∀ t : Fin cfg0.N, win0_15.index t = ![0, 0] := by decide +kernel
  have h : iblk m c 15 t (ix2 d k) = V m c main_call0_v22 (ix2 d k) := by blk_ext [iblk, e]
  rw [h]
  entry_read
  simp -implicitDefEqProofs only [StableHlo.TRef.ofBuf, StableHlo.TRef.toBuf, cast_eq]
  pointwise

private theorem at16 (t : Fin cfg0.N) (r : Fin 16) (j : Fin 256) :
    iblk m c 16 t (ix2 r j) = m ((c : Thread nD τ).loc main_arg14) (ix2 j r) := by
  have e : ∀ t : Fin cfg0.N, win0_16.index t = ![0, 0] := by decide +kernel
  have h : iblk m c 16 t (ix2 r j) = V m c main_call0_v23 (ix2 r j) := by blk_ext [iblk, e]
  rw [h]
  entry_read
  simp -implicitDefEqProofs only [StableHlo.TRef.ofBuf, StableHlo.TRef.toBuf, cast_eq]
  pointwise

private theorem at17 (t : Fin cfg0.N) (j : Fin 256) :
    iblk m c 17 t (ix2 0 j) = m ((c : Thread nD τ).loc main_arg15) (ix1 j) := by
  have e : ∀ t : Fin cfg0.N, win0_17.index t = ![0, 0] := by decide +kernel
  have h : iblk m c 17 t (ix2 0 j) = V m c main_call0_v24 (ix2 0 j) := by blk_ext [iblk, e]
  rw [h]
  entry_read
  simp -implicitDefEqProofs only [StableHlo.TRef.ofBuf, StableHlo.TRef.toBuf, cast_eq]
  pointwise

private theorem at18 (t : Fin cfg0.N) (n : Fin 16) (j : Fin 256) :
    iblk m c 18 t (ix2 n j) = m ((c : Thread nD τ).loc main_arg16) (ix2 j n) := by
  have e : ∀ t : Fin cfg0.N, win0_18.index t = ![0, 0] := by decide +kernel
  have h : iblk m c 18 t (ix2 n j) = V m c main_call0_v25 (ix2 n j) := by blk_ext [iblk, e]
  rw [h]
  entry_read
  simp -implicitDefEqProofs only [StableHlo.TRef.ofBuf, StableHlo.TRef.toBuf, cast_eq]
  pointwise

private theorem at19 (t : Fin cfg0.N) (j : Fin 256) :
    iblk m c 19 t (ix2 0 j) = m ((c : Thread nD τ).loc main_arg17) (ix1 j) := by
  have e : ∀ t : Fin cfg0.N, win0_19.index t = ![0, 0] := by decide +kernel
  have h : iblk m c 19 t (ix2 0 j) = V m c main_call0_v26 (ix2 0 j) := by blk_ext [iblk, e]
  rw [h]
  entry_read
  simp -implicitDefEqProofs only [StableHlo.TRef.ofBuf, StableHlo.TRef.toBuf, cast_eq]
  pointwise

private theorem at20 (t : Fin cfg0.N) (j i : Fin 256) :
    iblk m c 20 t (ix2 j i) = m ((c : Thread nD τ).loc main_arg18) (ix2 i j) := by
  have e : ∀ t : Fin cfg0.N, win0_20.index t = ![0, 0] := by decide +kernel
  have h : iblk m c 20 t (ix2 j i) = V m c main_call0_v27 (ix2 j i) := by blk_ext [iblk, e]
  rw [h]
  entry_read
  simp -implicitDefEqProofs only [StableHlo.TRef.ofBuf, StableHlo.TRef.toBuf, cast_eq]
  pointwise

/-- The forward operands' blocks hold the forward weights. -/
theorem holdsF (t : Fin cfg0.N) : Holds (wF m c) (iblk m c 1 t) (iblk m c 2 t) (iblk m c 3 t)
    (iblk m c 4 t) (iblk m c 5 t) (iblk m c 6 t) (iblk m c 7 t) (iblk m c 8 t) (iblk m c 9 t)
    (iblk m c 10 t) :=
  ⟨at1 m c t, at2 m c t, at3 m c t, at4 m c t, at5 m c t, at6 m c t, at7 m c t, at8 m c t, at9 m c t,
    at10 m c t⟩

/-- The backward operands' blocks hold the backward weights. -/
theorem holdsR (t : Fin cfg0.N) : Holds (wR m c) (iblk m c 11 t) (iblk m c 12 t) (iblk m c 13 t)
    (iblk m c 14 t) (iblk m c 15 t) (iblk m c 16 t) (iblk m c 17 t) (iblk m c 18 t) (iblk m c 19 t)
    (iblk m c 20 t) :=
  ⟨at11 m c t, at12 m c t, at13 m c t, at14 m c t, at15 m c t, at16 m c t, at17 m c t, at18 m c t,
    at19 m c t, at20 m c t⟩

/-- The result array after the run. -/
theorem array_value : (dats m 0 c).arrAt 21 cfg0.N
    = answer (m ((c : Thread nD τ).loc main_arg0)) (wF m c) (wR m c) := by
  have e0 : ∀ t : Fin cfg0.N, win0_0.index t = ![t.val, 0, 0] := by decide +kernel
  have e21 : ∀ t : Fin cfg0.N, win0_21.index t = ![t.val, 0, 0] := by decide +kernel
  refine (dats m 0 c).arrAt_eq_of_covers 21 _ (by decide +kernel) fun t hf y => ?_
  blk_simp
  rw [after0_21]
  unfold outsAt0
  have hy : y = ix3 0 (y 1) (y 2) := by
    refine (eq_ix3 y).trans (congrArg (fun z => ix3 z (y 1) (y 2)) ?_)
    exact Subsingleton.elim (α := Fin 1) _ _
  rw [hy]
  refine (out0_apply (hf := holdsF m c t) (hr := holdsR m c t) ..).trans ?_
  have hp : (win0_21.blk t).view.emb (ix3 0 (y 1) (y 2)) = ix3 (⟨t.val, t.isLt⟩ : Fin 4) (y 1) (y 2) := by
    blk_ext [e21]
  have hx : rows (iblk m c 0 t)
      = fun s d => m ((c : Thread nD τ).loc main_arg0) (ix3 (⟨t.val, t.isLt⟩ : Fin 4) s d) := by
    funext s d
    unfold rows
    blk_ext [iblk, V, e0]
  refine Eq.trans ?_
    (congrArg (answer (m ((c : Thread nD τ).loc main_arg0)) (wF m c) (wR m c)) hp).symm
  exact congrArg (fun X => both X (wF m c) (wR m c) (y 1) (y 2)) hx

end Cert.KernelIdeal.Gen
-- ==== Proof.RefForward.lean ====
module

public import proofs.«01_k».proof.Proof.Gen.ReferenceIdeal.Run
public import proofs.«01_k».proof.Proof.Block
public import Idealize.ShloMosaic.Lib.StableHlo.ReadAt

/-!
# The reference's forward direction before the scan

Each stretch of the forward direction, read at an index, out of what the stretches before it left.
-/

@[expose] public section

set_option maxRecDepth 16384

open Idealize.ShloMosaic Idealize.SL.Sem Cert.Mamba

namespace Cert.ReferenceIdeal.Value

open Cert.ReferenceIdeal Cert.ReferenceIdeal.Gen Idealize.ShloMosaic.StableHlo

variable (V : Valuation τ sig (Elt Ideal)) (w : Weights) (X : Fin 2048 → Fin 256 → EReal) (b : Fin 4)

/-- The offset's product, its last two factors exchanged. -/
theorem driven {p q r p' q' r' : EReal} (hp : p = p') (hq : q = q') (hr : r = r') :
    p * q * r = p' * r' * q' := by
  rw [hp, hq, hr, mul_right_comm]

/-- The forward projection's first half. -/
theorem loF
    (hx : ∀ t d, (V (Proc.devRef .tc main_arg0) : FVec Ideal S4x2048x256 .f32) (ix3 b t d) = X t d)
    (hin : ∀ e d, (V (Proc.devRef .tc main_arg1) : FVec Ideal S512x256 .f32) (ix2 e d) = w.inw e d)
    (t : Fin 2048)
    (j : Fin 256)
    : (after (hostOps0 (F := Ideal)) V (Proc.devRef .tc main_v1) : FVec Ideal S4x2048x256 .f32) (ix3 b t j) = proj w X t ⟨j.val, by omega⟩ := by
  after_reads_at
  exact Finset.sum_congr rfl fun d _ => by exact congrArg₂ (· * ·) (hx t d) (hin _ d)

/-- The forward projection's second half. -/
theorem hiF
    (hx : ∀ t d, (V (Proc.devRef .tc main_arg0) : FVec Ideal S4x2048x256 .f32) (ix3 b t d) = X t d)
    (hin : ∀ e d, (V (Proc.devRef .tc main_arg1) : FVec Ideal S512x256 .f32) (ix2 e d) = w.inw e d)
    (t : Fin 2048)
    (j : Fin 256)
    : (after (hostOps0 (F := Ideal)) V (Proc.devRef .tc main_v2) : FVec Ideal S4x2048x256 .f32) (ix3 b t j) = proj w X t ⟨256 + j.val, by omega⟩ := by
  after_reads_at
  exact Finset.sum_congr rfl fun d _ => by exact congrArg₂ (· * ·) (hx t d) (hin _ d)

/-- The forward projection a step earlier, zero before the first. -/
theorem beforeF
    (h1 : ∀ t j, (V (Proc.devRef .tc main_v1) : FVec Ideal S4x2048x256 .f32) (ix3 b t j) = proj w X t ⟨j.val, by omega⟩)
    (hc : (V (Proc.devRef .tc main_c) : IVec S_ 32) (Shape.Idx.first h_S_) = 0#32)
    (t : Fin 2048)
    (j : Fin 256)
    : (after (hostOps0_1 (F := Ideal)) V (Proc.devRef .tc main_v3) : FVec Ideal S4x2049x256 .f32) (ix3 b ⟨t.val, by omega⟩ j) = prev w X t j := by
  after_reads_at
  unfold prev
  by_cases h : t.val < 1
  · refine (dif_neg (by omega)).trans ((congrArg (fun q : BitVec 32 => (((q.toInt : ℝ)) : EReal))
      (hc : _ = 0#32)).trans ?_)
    rw [if_pos h]
    simp
  · refine (dif_pos (by omega)).trans ((h1 _ j).trans ?_)
    rw [if_neg h]

/-- The forward convolution. -/
theorem convF
    (h1 : ∀ t j, (V (Proc.devRef .tc main_v1) : FVec Ideal S4x2048x256 .f32) (ix3 b t j) = proj w X t ⟨j.val, by omega⟩)
    (h3 : ∀ (t : Fin 2048) j, (V (Proc.devRef .tc main_v3) : FVec Ideal S4x2049x256 .f32) (ix3 b ⟨t.val, by omega⟩ j) = prev w X t j)
    (hw0 : ∀ j, (V (Proc.devRef .tc main_arg2) : FVec Ideal S256x2 .f32) (ix2 j 0) = w.w0 j)
    (hw1 : ∀ j, (V (Proc.devRef .tc main_arg2) : FVec Ideal S256x2 .f32) (ix2 j 1) = w.w1 j)
    (hcb : ∀ j, (V (Proc.devRef .tc main_arg3) : FVec Ideal S256 .f32) (ix1 j) = w.cb j)
    (t : Fin 2048)
    (j : Fin 256)
    : (after (hostOps0_2 (F := Ideal)) V (Proc.devRef .tc main_v18) : FVec Ideal S4x2048x256 .f32) (ix3 b t j) = prev w X t j * w.w0 j + proj w X t ⟨j.val, by omega⟩ * w.w1 j + w.cb j := by
  after_reads_at
  exact congrArg₂ (· + ·) (congrArg₂ (· + ·) (congrArg₂ (· * ·) (h3 t j) (hw0 j)) (congrArg₂ (· * ·) (h1 t j) (hw1 j))) (hcb j)

/-- The forward activation. -/
theorem actF
    (h18 : ∀ t j, (V (Proc.devRef .tc main_v18) : FVec Ideal S4x2048x256 .f32) (ix3 b t j) = prev w X t j * w.w0 j + proj w X t ⟨j.val, by omega⟩ * w.w1 j + w.cb j)
    (t : Fin 2048)
    (j : Fin 256)
    : (after (hostOps0_3 (F := Ideal)) V (Proc.devRef .tc main_v19) : FVec Ideal S4x2048x256 .f32) (ix3 b t j) = xc w X t j := by
  after_reads_at
  exact congrArg silu (h18 t j)

/-- The forward coefficients. -/
theorem coefF
    (h19 : ∀ t j, (V (Proc.devRef .tc main_v19) : FVec Ideal S4x2048x256 .f32) (ix3 b t j) = xc w X t j)
    (hxw : ∀ k d, (V (Proc.devRef .tc main_arg4) : FVec Ideal S48x256 .f32) (ix2 k d) = w.xw k d)
    (t : Fin 2048)
    (k : Fin 48)
    : (after (hostOps0_4 (F := Ideal)) V (Proc.devRef .tc main_v20) : FVec Ideal S4x2048x48 .f32) (ix3 b t k) = dbc w X t k := by
  after_reads_at
  exact Finset.sum_congr rfl fun d _ => by exact congrArg₂ (· * ·) (h19 t d) (hxw _ d)

/-- The forward step before its softplus. -/
theorem gapF
    (h19 : ∀ t j, (V (Proc.devRef .tc main_v19) : FVec Ideal S4x2048x256 .f32) (ix3 b t j) = xc w X t j)
    (hxw : ∀ k d, (V (Proc.devRef .tc main_arg4) : FVec Ideal S48x256 .f32) (ix2 k d) = w.xw k d)
    (hdw : ∀ j r, (V (Proc.devRef .tc main_arg5) : FVec Ideal S256x16 .f32) (ix2 j r) = w.dw j r)
    (hdb : ∀ j, (V (Proc.devRef .tc main_arg6) : FVec Ideal S256 .f32) (ix1 j) = w.db j)
    (t : Fin 2048)
    (j : Fin 256)
    : (after (hostOps0_4 (F := Ideal)) V (Proc.devRef .tc main_v25) : FVec Ideal S4x2048x256 .f32) (ix3 b t j) = (∑ r : Fin 16, dbc w X t ⟨r.val, by omega⟩ * w.dw j r) + w.db j := by
  after_reads_at
  refine congrArg₂ (· + ·) (Finset.sum_congr rfl fun r _ => ?_) (hdb j)
  refine congrArg₂ (· * ·) (Finset.sum_congr rfl fun d _ => ?_) (hdw j r)
  exact congrArg₂ (· * ·) (h19 t d) (hxw _ d)

/-- The forward step. -/
theorem stepF
    (h25 : ∀ t j, (V (Proc.devRef .tc main_v25) : FVec Ideal S4x2048x256 .f32) (ix3 b t j) = (∑ r : Fin 16, dbc w X t ⟨r.val, by omega⟩ * w.dw j r) + w.db j)
    (t : Fin 2048)
    (j : Fin 256)
    : (after (hostOps0_5 (F := Ideal)) V (Proc.devRef .tc main_v26) : FVec Ideal S4x2048x256 .f32) (ix3 b t j) = dt w X t j := by
  after_reads_at
  rw [if_neg (not_not.2 rfl)]
  exact congrArg softplus (h25 t j)

/-- The forward decay. -/
theorem fallF
    (h26 : ∀ t j, (V (Proc.devRef .tc main_v26) : FVec Ideal S4x2048x256 .f32) (ix3 b t j) = dt w X t j)
    (hal : ∀ j n, (V (Proc.devRef .tc main_arg7) : FVec Ideal S256x16 .f32) (ix2 j n) = w.al j n)
    (t : Fin 2048)
    (j : Fin 256)
    (n : Fin 16)
    : (after (hostOps0_6 (F := Ideal)) V (Proc.devRef .tc main_v45) : FVec Ideal S2048x4x256x16 .f32) (ix4 t b j n) = decay w X j n t := by
  after_reads_at
  exact congrArg Ideal.exp (congrArg₂ (· * ·) (h26 t j) (congrArg (fun q : EReal => -Ideal.exp q) (hal j n)))

/-- The forward drive. -/
theorem pushF
    (h26 : ∀ t j, (V (Proc.devRef .tc main_v26) : FVec Ideal S4x2048x256 .f32) (ix3 b t j) = dt w X t j)
    (h19 : ∀ t j, (V (Proc.devRef .tc main_v19) : FVec Ideal S4x2048x256 .f32) (ix3 b t j) = xc w X t j)
    (h20 : ∀ t k, (V (Proc.devRef .tc main_v20) : FVec Ideal S4x2048x48 .f32) (ix3 b t k) = dbc w X t k)
    (t : Fin 2048)
    (j : Fin 256)
    (n : Fin 16)
    : (after (hostOps0_6 (F := Ideal)) V (Proc.devRef .tc main_v46) : FVec Ideal S2048x4x256x16 .f32) (ix4 t b j n) = drive w X j n t := by
  after_reads_at
  exact driven (h26 t j) (h20 t _) (h19 t j)

/-- The forward readout coefficients. -/
theorem sightF
    (h20 : ∀ t k, (V (Proc.devRef .tc main_v20) : FVec Ideal S4x2048x48 .f32) (ix3 b t k) = dbc w X t k)
    (t : Fin 2048)
    (n : Fin 16)
    : (after (hostOps0_6 (F := Ideal)) V (Proc.devRef .tc main_v47) : FVec Ideal S2048x4x16 .f32) (ix3 t b n) = dbc w X t ⟨32 + n.val, by omega⟩ := by
  after_reads_at
  exact h20 t _

end Cert.ReferenceIdeal.Value
-- ==== Proof.RefBackward.lean ====
module

public import proofs.«01_k».proof.Proof.Gen.ReferenceIdeal.Run
public import proofs.«01_k».proof.Proof.RefForward
public import Idealize.ShloMosaic.Lib.StableHlo.ReadAt

/-!
# The reference's backward direction before the scan

Each stretch of the backward direction, read at an index, out of what the stretches before it left.
-/

@[expose] public section

set_option maxRecDepth 16384

open Idealize.ShloMosaic Idealize.SL.Sem Cert.Mamba

namespace Cert.ReferenceIdeal.Value

open Cert.ReferenceIdeal Cert.ReferenceIdeal.Gen Idealize.ShloMosaic.StableHlo

variable (V : Valuation τ sig (Elt Ideal)) (w : Weights) (X : Fin 2048 → Fin 256 → EReal) (b : Fin 4)

/-- The backward projection's first half. -/
theorem loR
    (hx : ∀ t d, (V (Proc.devRef .tc main_v48) : FVec Ideal S4x2048x256 .f32) (ix3 b t d) = X t d)
    (hin : ∀ e d, (V (Proc.devRef .tc main_arg10) : FVec Ideal S512x256 .f32) (ix2 e d) = w.inw e d)
    (t : Fin 2048)
    (j : Fin 256)
    : (after (hostOps0_8 (F := Ideal)) V (Proc.devRef .tc main_v50) : FVec Ideal S4x2048x256 .f32) (ix3 b t j) = proj w X t ⟨j.val, by omega⟩ := by
  after_reads_at
  exact Finset.sum_congr rfl fun d _ => by exact congrArg₂ (· * ·) (hx t d) (hin _ d)

/-- The backward projection's second half. -/
theorem hiR
    (hx : ∀ t d, (V (Proc.devRef .tc main_v48) : FVec Ideal S4x2048x256 .f32) (ix3 b t d) = X t d)
    (hin : ∀ e d, (V (Proc.devRef .tc main_arg10) : FVec Ideal S512x256 .f32) (ix2 e d) = w.inw e d)
    (t : Fin 2048)
    (j : Fin 256)
    : (after (hostOps0_8 (F := Ideal)) V (Proc.devRef .tc main_v51) : FVec Ideal S4x2048x256 .f32) (ix3 b t j) = proj w X t ⟨256 + j.val, by omega⟩ := by
  after_reads_at
  exact Finset.sum_congr rfl fun d _ => by exact congrArg₂ (· * ·) (hx t d) (hin _ d)

/-- The backward projection a step earlier, zero before the first. -/
theorem beforeR
    (h1 : ∀ t j, (V (Proc.devRef .tc main_v50) : FVec Ideal S4x2048x256 .f32) (ix3 b t j) = proj w X t ⟨j.val, by omega⟩)
    (hc : (V (Proc.devRef .tc main_c_0) : IVec S_ 32) (Shape.Idx.first h_S_) = 0#32)
    (t : Fin 2048)
    (j : Fin 256)
    : (after (hostOps0_9 (F := Ideal)) V (Proc.devRef .tc main_v52) : FVec Ideal S4x2049x256 .f32) (ix3 b ⟨t.val, by omega⟩ j) = prev w X t j := by
  after_reads_at
  unfold prev
  by_cases h : t.val < 1
  · refine (dif_neg (by omega)).trans ((congrArg (fun q : BitVec 32 => (((q.toInt : ℝ)) : EReal))
      (hc : _ = 0#32)).trans ?_)
    rw [if_pos h]
    simp
  · refine (dif_pos (by omega)).trans ((h1 _ j).trans ?_)
    rw [if_neg h]

/-- The backward convolution. -/
theorem convR
    (h1 : ∀ t j, (V (Proc.devRef .tc main_v50) : FVec Ideal S4x2048x256 .f32) (ix3 b t j) = proj w X t ⟨j.val, by omega⟩)
    (h3 : ∀ (t : Fin 2048) j, (V (Proc.devRef .tc main_v52) : FVec Ideal S4x2049x256 .f32) (ix3 b ⟨t.val, by omega⟩ j) = prev w X t j)
    (hw0 : ∀ j, (V (Proc.devRef .tc main_arg11) : FVec Ideal S256x2 .f32) (ix2 j 0) = w.w0 j)
    (hw1 : ∀ j, (V (Proc.devRef .tc main_arg11) : FVec Ideal S256x2 .f32) (ix2 j 1) = w.w1 j)
    (hcb : ∀ j, (V (Proc.devRef .tc main_arg12) : FVec Ideal S256 .f32) (ix1 j) = w.cb j)
    (t : Fin 2048)
    (j : Fin 256)
    : (after (hostOps0_10 (F := Ideal)) V (Proc.devRef .tc main_v67) : FVec Ideal S4x2048x256 .f32) (ix3 b t j) = prev w X t j * w.w0 j + proj w X t ⟨j.val, by omega⟩ * w.w1 j + w.cb j := by
  after_reads_at
  exact congrArg₂ (· + ·) (congrArg₂ (· + ·) (congrArg₂ (· * ·) (h3 t j) (hw0 j)) (congrArg₂ (· * ·) (h1 t j) (hw1 j))) (hcb j)

/-- The backward activation. -/
theorem actR
    (h18 : ∀ t j, (V (Proc.devRef .tc main_v67) : FVec Ideal S4x2048x256 .f32) (ix3 b t j) = prev w X t j * w.w0 j + proj w X t ⟨j.val, by omega⟩ * w.w1 j + w.cb j)
    (t : Fin 2048)
    (j : Fin 256)
    : (after (hostOps0_11 (F := Ideal)) V (Proc.devRef .tc main_v68) : FVec Ideal S4x2048x256 .f32) (ix3 b t j) = xc w X t j := by
  after_reads_at
  exact congrArg silu (h18 t j)

/-- The backward coefficients. -/
theorem coefR
    (h19 : ∀ t j, (V (Proc.devRef .tc main_v68) : FVec Ideal S4x2048x256 .f32) (ix3 b t j) = xc w X t j)
    (hxw : ∀ k d, (V (Proc.devRef .tc main_arg13) : FVec Ideal S48x256 .f32) (ix2 k d) = w.xw k d)
    (t : Fin 2048)
    (k : Fin 48)
    : (after (hostOps0_12 (F := Ideal)) V (Proc.devRef .tc main_v69) : FVec Ideal S4x2048x48 .f32) (ix3 b t k) = dbc w X t k := by
  after_reads_at
  exact Finset.sum_congr rfl fun d _ => by exact congrArg₂ (· * ·) (h19 t d) (hxw _ d)

/-- The backward step before its softplus. -/
theorem gapR
    (h19 : ∀ t j, (V (Proc.devRef .tc main_v68) : FVec Ideal S4x2048x256 .f32) (ix3 b t j) = xc w X t j)
    (hxw : ∀ k d, (V (Proc.devRef .tc main_arg13) : FVec Ideal S48x256 .f32) (ix2 k d) = w.xw k d)
    (hdw : ∀ j r, (V (Proc.devRef .tc main_arg14) : FVec Ideal S256x16 .f32) (ix2 j r) = w.dw j r)
    (hdb : ∀ j, (V (Proc.devRef .tc main_arg15) : FVec Ideal S256 .f32) (ix1 j) = w.db j)
    (t : Fin 2048)
    (j : Fin 256)
    : (after (hostOps0_12 (F := Ideal)) V (Proc.devRef .tc main_v74) : FVec Ideal S4x2048x256 .f32) (ix3 b t j) = (∑ r : Fin 16, dbc w X t ⟨r.val, by omega⟩ * w.dw j r) + w.db j := by
  after_reads_at
  refine congrArg₂ (· + ·) (Finset.sum_congr rfl fun r _ => ?_) (hdb j)
  refine congrArg₂ (· * ·) (Finset.sum_congr rfl fun d _ => ?_) (hdw j r)
  exact congrArg₂ (· * ·) (h19 t d) (hxw _ d)

/-- The backward step. -/
theorem stepR
    (h25 : ∀ t j, (V (Proc.devRef .tc main_v74) : FVec Ideal S4x2048x256 .f32) (ix3 b t j) = (∑ r : Fin 16, dbc w X t ⟨r.val, by omega⟩ * w.dw j r) + w.db j)
    (t : Fin 2048)
    (j : Fin 256)
    : (after (hostOps0_13 (F := Ideal)) V (Proc.devRef .tc main_v75) : FVec Ideal S4x2048x256 .f32) (ix3 b t j) = dt w X t j := by
  after_reads_at
  rw [if_neg (not_not.2 rfl)]
  exact congrArg softplus (h25 t j)

/-- The backward decay. -/
theorem fallR
    (h26 : ∀ t j, (V (Proc.devRef .tc main_v75) : FVec Ideal S4x2048x256 .f32) (ix3 b t j) = dt w X t j)
    (hal : ∀ j n, (V (Proc.devRef .tc main_arg16) : FVec Ideal S256x16 .f32) (ix2 j n) = w.al j n)
    (t : Fin 2048)
    (j : Fin 256)
    (n : Fin 16)
    : (after (hostOps0_14 (F := Ideal)) V (Proc.devRef .tc main_v100_3) : FVec Ideal S2048x4x256x16 .f32) (ix4 t b j n) = decay w X j n t := by
  after_reads_simp
  simp only [id_eq]
  pointwise
  exact congrArg Ideal.exp (congrArg₂ (· * ·) (h26 t j) (congrArg (fun q : EReal => -Ideal.exp q) (hal j n)))

/-- The backward drive. -/
theorem pushR
    (h26 : ∀ t j, (V (Proc.devRef .tc main_v75) : FVec Ideal S4x2048x256 .f32) (ix3 b t j) = dt w X t j)
    (h19 : ∀ t j, (V (Proc.devRef .tc main_v68) : FVec Ideal S4x2048x256 .f32) (ix3 b t j) = xc w X t j)
    (h20 : ∀ t k, (V (Proc.devRef .tc main_v69) : FVec Ideal S4x2048x48 .f32) (ix3 b t k) = dbc w X t k)
    (t : Fin 2048)
    (j : Fin 256)
    (n : Fin 16)
    : (after (hostOps0_14 (F := Ideal)) V (Proc.devRef .tc main_v100_4) : FVec Ideal S2048x4x256x16 .f32) (ix4 t b j n) = drive w X j n t := by
  after_reads_simp
  simp only [id_eq]
  pointwise
  exact driven (h26 t j) (h20 t _) (h19 t j)

/-- The backward readout coefficients. -/
theorem sightR
    (h20 : ∀ t k, (V (Proc.devRef .tc main_v69) : FVec Ideal S4x2048x48 .f32) (ix3 b t k) = dbc w X t k)
    (t : Fin 2048)
    (n : Fin 16)
    : (after (hostOps0_14 (F := Ideal)) V (Proc.devRef .tc main_v100_5) : FVec Ideal S2048x4x16 .f32) (ix3 t b n) = dbc w X t ⟨32 + n.val, by omega⟩ := by
  after_reads_simp
  simp only [id_eq]
  pointwise
  exact h20 t _

end Cert.ReferenceIdeal.Value
-- ==== Proof.RefEntry.lean ====
module

public import proofs.«01_k».proof.Proof.RefBackward

/-!
# The reference's buffers where the scan begins

The stretches of both directions joined: each direction's decays, drives and readout coefficients, with
time in front, and what the lines after the scan still read.
-/

@[expose] public section

set_option maxRecDepth 16384

open Idealize.ShloMosaic Idealize.SL.Sem Cert.Mamba

namespace Cert.ReferenceIdeal.Value

open Cert.ReferenceIdeal Cert.ReferenceIdeal.Gen Idealize.ShloMosaic.StableHlo

/-- The buffers that hold the arguments. -/
def inputs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- The backward direction's rows: the sequence with its time turned round. -/
theorem turned (V : Valuation τ sig (Elt Ideal)) (b : Fin 4) (t : Fin 2048) (d : Fin 256) :
    (after (hostOps0_7 (F := Ideal)) V (Proc.devRef .tc main_v48) : FVec Ideal S4x2048x256 .f32) (ix3 b t d)
      = (V (Proc.devRef .tc main_arg0) : FVec Ideal S4x2048x256 .f32) (ix3 b (back t) d) := by
  after_reads_at
  have e : t.rev = back t := Fin.ext (by simp only [Fin.val_rev, back]; omega)
  exact congrArg (fun q : Fin 2048 => (V (Proc.devRef .tc main_arg0) : FVec Ideal S4x2048x256 .f32) (ix3 b q d)) e

variable (m : (ℓ : Loc nD τ sig) → Buf (Elt Ideal) ℓ) (c : Dev nD)

/-- The buffers after 1 stretch. -/
noncomputable def at1 : Valuation τ sig (Elt Ideal) := after hostOps0 (launchContents m c)

/-- Stretch 0 leaves alone what it doesn't write. -/
theorem keep1 (r : Ref sig .tc) (h : r ∉ hostOps0_W) :
    at1 m c (Proc.devRef .tc r) = launchContents m c (Proc.devRef .tc r) :=
  after_of_writes_sub _ _ hostOps0_writes h

/-- The arguments after 1 stretch. -/
theorem args1 (r : Ref sig .tc) (h : r ∈ inputs) : at1 m c (Proc.devRef .tc r) = launchContents m c (Proc.devRef .tc r) :=
  keep1 m c r ((by decide +kernel : ∀ r ∈ inputs, r ∉ hostOps0_W) r h)

/-- The buffers after 2 stretches. -/
noncomputable def at2 : Valuation τ sig (Elt Ideal) := after hostOps0_1 (at1 m c)

/-- Stretch 1 leaves alone what it doesn't write. -/
theorem keep2 (r : Ref sig .tc) (h : r ∉ hostOps0_1_W) :
    at2 m c (Proc.devRef .tc r) = at1 m c (Proc.devRef .tc r) :=
  after_of_writes_sub _ _ hostOps0_1_writes h

/-- The arguments after 2 stretches. -/
theorem args2 (r : Ref sig .tc) (h : r ∈ inputs) : at2 m c (Proc.devRef .tc r) = launchContents m c (Proc.devRef .tc r) :=
  (keep2 m c r ((by decide +kernel : ∀ r ∈ inputs, r ∉ hostOps0_1_W) r h)).trans (args1 m c r h)

/-- The buffers after 3 stretches. -/
noncomputable def at3 : Valuation τ sig (Elt Ideal) := after hostOps0_2 (at2 m c)

/-- Stretch 2 leaves alone what it doesn't write. -/
theorem keep3 (r : Ref sig .tc) (h : r ∉ hostOps0_2_W) :
    at3 m c (Proc.devRef .tc r) = at2 m c (Proc.devRef .tc r) :=
  after_of_writes_sub _ _ hostOps0_2_writes h

/-- The arguments after 3 stretches. -/
theorem args3 (r : Ref sig .tc) (h : r ∈ inputs) : at3 m c (Proc.devRef .tc r) = launchContents m c (Proc.devRef .tc r) :=
  (keep3 m c r ((by decide +kernel : ∀ r ∈ inputs, r ∉ hostOps0_2_W) r h)).trans (args2 m c r h)

/-- The buffers after 4 stretches. -/
noncomputable def at4 : Valuation τ sig (Elt Ideal) := after hostOps0_3 (at3 m c)

/-- Stretch 3 leaves alone what it doesn't write. -/
theorem keep4 (r : Ref sig .tc) (h : r ∉ hostOps0_3_W) :
    at4 m c (Proc.devRef .tc r) = at3 m c (Proc.devRef .tc r) :=
  after_of_writes_sub _ _ hostOps0_3_writes h

/-- The arguments after 4 stretches. -/
theorem args4 (r : Ref sig .tc) (h : r ∈ inputs) : at4 m c (Proc.devRef .tc r) = launchContents m c (Proc.devRef .tc r) :=
  (keep4 m c r ((by decide +kernel : ∀ r ∈ inputs, r ∉ hostOps0_3_W) r h)).trans (args3 m c r h)

/-- The buffers after 5 stretches. -/
noncomputable def at5 : Valuation τ sig (Elt Ideal) := after hostOps0_4 (at4 m c)

/-- Stretch 4 leaves alone what it doesn't write. -/
theorem keep5 (r : Ref sig .tc) (h : r ∉ hostOps0_4_W) :
    at5 m c (Proc.devRef .tc r) = at4 m c (Proc.devRef .tc r) :=
  after_of_writes_sub _ _ hostOps0_4_writes h

/-- The arguments after 5 stretches. -/
theorem args5 (r : Ref sig .tc) (h : r ∈ inputs) : at5 m c (Proc.devRef .tc r) = launchContents m c (Proc.devRef .tc r) :=
  (keep5 m c r ((by decide +kernel : ∀ r ∈ inputs, r ∉ hostOps0_4_W) r h)).trans (args4 m c r h)

/-- The buffers after 6 stretches. -/
noncomputable def at6 : Valuation τ sig (Elt Ideal) := after hostOps0_5 (at5 m c)

/-- Stretch 5 leaves alone what it doesn't write. -/
theorem keep6 (r : Ref sig .tc) (h : r ∉ hostOps0_5_W) :
    at6 m c (Proc.devRef .tc r) = at5 m c (Proc.devRef .tc r) :=
  after_of_writes_sub _ _ hostOps0_5_writes h

/-- The arguments after 6 stretches. -/
theorem args6 (r : Ref sig .tc) (h : r ∈ inputs) : at6 m c (Proc.devRef .tc r) = launchContents m c (Proc.devRef .tc r) :=
  (keep6 m c r ((by decide +kernel : ∀ r ∈ inputs, r ∉ hostOps0_5_W) r h)).trans (args5 m c r h)

/-- The buffers after 7 stretches. -/
noncomputable def at7 : Valuation τ sig (Elt Ideal) := after hostOps0_6 (at6 m c)

/-- Stretch 6 leaves alone what it doesn't write. -/
theorem keep7 (r : Ref sig .tc) (h : r ∉ hostOps0_6_W) :
    at7 m c (Proc.devRef .tc r) = at6 m c (Proc.devRef .tc r) :=
  after_of_writes_sub _ _ hostOps0_6_writes h

/-- The arguments after 7 stretches. -/
theorem args7 (r : Ref sig .tc) (h : r ∈ inputs) : at7 m c (Proc.devRef .tc r) = launchContents m c (Proc.devRef .tc r) :=
  (keep7 m c r ((by decide +kernel : ∀ r ∈ inputs, r ∉ hostOps0_6_W) r h)).trans (args6 m c r h)

/-- The buffers after 8 stretches. -/
noncomputable def at8 : Valuation τ sig (Elt Ideal) := after hostOps0_7 (at7 m c)

/-- Stretch 7 leaves alone what it doesn't write. -/
theorem keep8 (r : Ref sig .tc) (h : r ∉ hostOps0_7_W) :
    at8 m c (Proc.devRef .tc r) = at7 m c (Proc.devRef .tc r) :=
  after_of_writes_sub _ _ hostOps0_7_writes h

/-- The arguments after 8 stretches. -/
theorem args8 (r : Ref sig .tc) (h : r ∈ inputs) : at8 m c (Proc.devRef .tc r) = launchContents m c (Proc.devRef .tc r) :=
  (keep8 m c r ((by decide +kernel : ∀ r ∈ inputs, r ∉ hostOps0_7_W) r h)).trans (args7 m c r h)

/-- The buffers after 9 stretches. -/
noncomputable def at9 : Valuation τ sig (Elt Ideal) := after hostOps0_8 (at8 m c)

/-- Stretch 8 leaves alone what it doesn't write. -/
theorem keep9 (r : Ref sig .tc) (h : r ∉ hostOps0_8_W) :
    at9 m c (Proc.devRef .tc r) = at8 m c (Proc.devRef .tc r) :=
  after_of_writes_sub _ _ hostOps0_8_writes h

/-- The arguments after 9 stretches. -/
theorem args9 (r : Ref sig .tc) (h : r ∈ inputs) : at9 m c (Proc.devRef .tc r) = launchContents m c (Proc.devRef .tc r) :=
  (keep9 m c r ((by decide +kernel : ∀ r ∈ inputs, r ∉ hostOps0_8_W) r h)).trans (args8 m c r h)

/-- The buffers after 10 stretches. -/
noncomputable def at10 : Valuation τ sig (Elt Ideal) := after hostOps0_9 (at9 m c)

/-- Stretch 9 leaves alone what it doesn't write. -/
theorem keep10 (r : Ref sig .tc) (h : r ∉ hostOps0_9_W) :
    at10 m c (Proc.devRef .tc r) = at9 m c (Proc.devRef .tc r) :=
  after_of_writes_sub _ _ hostOps0_9_writes h

/-- The arguments after 10 stretches. -/
theorem args10 (r : Ref sig .tc) (h : r ∈ inputs) : at10 m c (Proc.devRef .tc r) = launchContents m c (Proc.devRef .tc r) :=
  (keep10 m c r ((by decide +kernel : ∀ r ∈ inputs, r ∉ hostOps0_9_W) r h)).trans (args9 m c r h)

/-- The buffers after 11 stretches. -/
noncomputable def at11 : Valuation τ sig (Elt Ideal) := after hostOps0_10 (at10 m c)

/-- Stretch 10 leaves alone what it doesn't write. -/
theorem keep11 (r : Ref sig .tc) (h : r ∉ hostOps0_10_W) :
    at11 m c (Proc.devRef .tc r) = at10 m c (Proc.devRef .tc r) :=
  after_of_writes_sub _ _ hostOps0_10_writes h

/-- The arguments after 11 stretches. -/
theorem args11 (r : Ref sig .tc) (h : r ∈ inputs) : at11 m c (Proc.devRef .tc r) = launchContents m c (Proc.devRef .tc r) :=
  (keep11 m c r ((by decide +kernel : ∀ r ∈ inputs, r ∉ hostOps0_10_W) r h)).trans (args10 m c r h)

/-- The buffers after 12 stretches. -/
noncomputable def at12 : Valuation τ sig (Elt Ideal) := after hostOps0_11 (at11 m c)

/-- Stretch 11 leaves alone what it doesn't write. -/
theorem keep12 (r : Ref sig .tc) (h : r ∉ hostOps0_11_W) :
    at12 m c (Proc.devRef .tc r) = at11 m c (Proc.devRef .tc r) :=
  after_of_writes_sub _ _ hostOps0_11_writes h

/-- The arguments after 12 stretches. -/
theorem args12 (r : Ref sig .tc) (h : r ∈ inputs) : at12 m c (Proc.devRef .tc r) = launchContents m c (Proc.devRef .tc r) :=
  (keep12 m c r ((by decide +kernel : ∀ r ∈ inputs, r ∉ hostOps0_11_W) r h)).trans (args11 m c r h)

/-- The buffers after 13 stretches. -/
noncomputable def at13 : Valuation τ sig (Elt Ideal) := after hostOps0_12 (at12 m c)

/-- Stretch 12 leaves alone what it doesn't write. -/
theorem keep13 (r : Ref sig .tc) (h : r ∉ hostOps0_12_W) :
    at13 m c (Proc.devRef .tc r) = at12 m c (Proc.devRef .tc r) :=
  after_of_writes_sub _ _ hostOps0_12_writes h

/-- The arguments after 13 stretches. -/
theorem args13 (r : Ref sig .tc) (h : r ∈ inputs) : at13 m c (Proc.devRef .tc r) = launchContents m c (Proc.devRef .tc r) :=
  (keep13 m c r ((by decide +kernel : ∀ r ∈ inputs, r ∉ hostOps0_12_W) r h)).trans (args12 m c r h)

/-- The buffers after 14 stretches. -/
noncomputable def at14 : Valuation τ sig (Elt Ideal) := after hostOps0_13 (at13 m c)

/-- Stretch 13 leaves alone what it doesn't write. -/
theorem keep14 (r : Ref sig .tc) (h : r ∉ hostOps0_13_W) :
    at14 m c (Proc.devRef .tc r) = at13 m c (Proc.devRef .tc r) :=
  after_of_writes_sub _ _ hostOps0_13_writes h

/-- The arguments after 14 stretches. -/
theorem args14 (r : Ref sig .tc) (h : r ∈ inputs) : at14 m c (Proc.devRef .tc r) = launchContents m c (Proc.devRef .tc r) :=
  (keep14 m c r ((by decide +kernel : ∀ r ∈ inputs, r ∉ hostOps0_13_W) r h)).trans (args13 m c r h)

/-- The buffers after 15 stretches. -/
noncomputable def at15 : Valuation τ sig (Elt Ideal) := after hostOps0_14 (at14 m c)

/-- Stretch 14 leaves alone what it doesn't write. -/
theorem keep15 (r : Ref sig .tc) (h : r ∉ hostOps0_14_W) :
    at15 m c (Proc.devRef .tc r) = at14 m c (Proc.devRef .tc r) :=
  after_of_writes_sub _ _ hostOps0_14_writes h

/-- The arguments after 15 stretches. -/
theorem args15 (r : Ref sig .tc) (h : r ∈ inputs) : at15 m c (Proc.devRef .tc r) = launchContents m c (Proc.devRef .tc r) :=
  (keep15 m c r ((by decide +kernel : ∀ r ∈ inputs, r ∉ hostOps0_14_W) r h)).trans (args14 m c r h)

/-- The scan begins after the fifteenth stretch. -/
theorem entry_at : entryContents (F := Ideal) preI m c = at15 m c := rfl

/-- The sequence of batch member `b`. -/
noncomputable def seq (b : Fin 4) : Fin 2048 → Fin 256 → EReal :=
  fun t d => (launchContents m c (Proc.devRef .tc main_arg0) : FVec Ideal S4x2048x256 .f32) (ix3 b t d)

/-- The same with its time turned round. -/
noncomputable def seqR (b : Fin 4) : Fin 2048 → Fin 256 → EReal := fun t => seq m c b (back t)

/-- The forward direction's weights. -/
noncomputable def uF : Weights := Weights.ofArrays
  (launchContents m c (Proc.devRef .tc main_arg1))
  (launchContents m c (Proc.devRef .tc main_arg2))
  (launchContents m c (Proc.devRef .tc main_arg3))
  (launchContents m c (Proc.devRef .tc main_arg4))
  (launchContents m c (Proc.devRef .tc main_arg5))
  (launchContents m c (Proc.devRef .tc main_arg6))
  (launchContents m c (Proc.devRef .tc main_arg7))
  (launchContents m c (Proc.devRef .tc main_arg8))
  (launchContents m c (Proc.devRef .tc main_arg9))

/-- The backward direction's weights. -/
noncomputable def uR : Weights := Weights.ofArrays
  (launchContents m c (Proc.devRef .tc main_arg10))
  (launchContents m c (Proc.devRef .tc main_arg11))
  (launchContents m c (Proc.devRef .tc main_arg12))
  (launchContents m c (Proc.devRef .tc main_arg13))
  (launchContents m c (Proc.devRef .tc main_arg14))
  (launchContents m c (Proc.devRef .tc main_arg15))
  (launchContents m c (Proc.devRef .tc main_arg16))
  (launchContents m c (Proc.devRef .tc main_arg17))
  (launchContents m c (Proc.devRef .tc main_arg18))

/-- The forward projection's first half. -/
theorem firstF (b : Fin 4) (t : Fin 2048) (j : Fin 256) : (at1 m c (Proc.devRef .tc main_v1) : FVec Ideal S4x2048x256 .f32) (ix3 b t j) = proj (uF m c) (seq m c b) t ⟨j.val, by omega⟩ :=
  loF (launchContents m c) (uF m c) (seq m c b) b (fun _ _ => rfl) (fun _ _ => rfl) t j

/-- The forward projection's second half. -/
theorem secondF (b : Fin 4) (t : Fin 2048) (j : Fin 256) : (at1 m c (Proc.devRef .tc main_v2) : FVec Ideal S4x2048x256 .f32) (ix3 b t j) = proj (uF m c) (seq m c b) t ⟨256 + j.val, by omega⟩ :=
  hiF (launchContents m c) (uF m c) (seq m c b) b (fun _ _ => rfl) (fun _ _ => rfl) t j

/-- What the forward direction puts before the first time step. -/
theorem edgeF : (at1 m c (Proc.devRef .tc main_c) : IVec S_ 32) (Shape.Idx.first h_S_) = 0#32 := by
  unfold at1
  after_reads_at

/-- The forward projection a step earlier. -/
theorem shiftedF (b : Fin 4) (t : Fin 2048) (j : Fin 256) : (at2 m c (Proc.devRef .tc main_v3) : FVec Ideal S4x2049x256 .f32) (ix3 b ⟨t.val, by omega⟩ j) = prev (uF m c) (seq m c b) t j :=
  beforeF (at1 m c) (uF m c) (seq m c b) b (firstF m c b) (edgeF m c) t j

/-- The forward projection's first half, kept. -/
theorem firstKeptF (b : Fin 4) (t : Fin 2048) (j : Fin 256) : (at2 m c (Proc.devRef .tc main_v1) : FVec Ideal S4x2048x256 .f32) (ix3 b t j) = proj (uF m c) (seq m c b) t ⟨j.val, by omega⟩ :=
  (congrFun (keep2 m c main_v1 (by decide +kernel)) (ix3 b t j)).trans (firstF m c b t j)

/-- The forward convolution. -/
theorem convolvedF (b : Fin 4) (t : Fin 2048) (j : Fin 256) : (at3 m c (Proc.devRef .tc main_v18) : FVec Ideal S4x2048x256 .f32) (ix3 b t j) = prev (uF m c) (seq m c b) t j * (uF m c).w0 j + proj (uF m c) (seq m c b) t ⟨j.val, by omega⟩ * (uF m c).w1 j + (uF m c).cb j :=
  convF (at2 m c) (uF m c) (seq m c b) b (firstKeptF m c b) (shiftedF m c b) (fun j => (congrFun (args2 m c main_arg2 (by decide +kernel)) (ix2 j 0))) (fun j => (congrFun (args2 m c main_arg2 (by decide +kernel)) (ix2 j 1))) (fun j => (congrFun (args2 m c main_arg3 (by decide +kernel)) (ix1 j))) t j

/-- The forward activation. -/
theorem activeF (b : Fin 4) (t : Fin 2048) (j : Fin 256) : (at4 m c (Proc.devRef .tc main_v19) : FVec Ideal S4x2048x256 .f32) (ix3 b t j) = xc (uF m c) (seq m c b) t j :=
  actF (at3 m c) (uF m c) (seq m c b) b (convolvedF m c b) t j

/-- The forward coefficients. -/
theorem coefsF (b : Fin 4) (t : Fin 2048) (k : Fin 48) : (at5 m c (Proc.devRef .tc main_v20) : FVec Ideal S4x2048x48 .f32) (ix3 b t k) = dbc (uF m c) (seq m c b) t k :=
  coefF (at4 m c) (uF m c) (seq m c b) b (activeF m c b) (fun k d => (congrFun (args4 m c main_arg4 (by decide +kernel)) (ix2 k d))) t k

/-- The forward step before its softplus. -/
theorem gapsF (b : Fin 4) (t : Fin 2048) (j : Fin 256) : (at5 m c (Proc.devRef .tc main_v25) : FVec Ideal S4x2048x256 .f32) (ix3 b t j) = (∑ r : Fin 16, dbc (uF m c) (seq m c b) t ⟨r.val, by omega⟩ * (uF m c).dw j r) + (uF m c).db j :=
  gapF (at4 m c) (uF m c) (seq m c b) b (activeF m c b) (fun k d => (congrFun (args4 m c main_arg4 (by decide +kernel)) (ix2 k d))) (fun j r => (congrFun (args4 m c main_arg5 (by decide +kernel)) (ix2 j r))) (fun j => (congrFun (args4 m c main_arg6 (by decide +kernel)) (ix1 j))) t j

/-- The forward step. -/
theorem stepsF (b : Fin 4) (t : Fin 2048) (j : Fin 256) : (at6 m c (Proc.devRef .tc main_v26) : FVec Ideal S4x2048x256 .f32) (ix3 b t j) = dt (uF m c) (seq m c b) t j :=
  stepF (at5 m c) (uF m c) (seq m c b) b (gapsF m c b) t j

/-- The forward activation, kept. -/
theorem activeKeptF (b : Fin 4) (t : Fin 2048) (j : Fin 256) : (at6 m c (Proc.devRef .tc main_v19) : FVec Ideal S4x2048x256 .f32) (ix3 b t j) = xc (uF m c) (seq m c b) t j :=
  (congrFun ((keep6 m c main_v19 (by decide +kernel)).trans (keep5 m c main_v19 (by decide +kernel))) (ix3 b t j)).trans (activeF m c b t j)

/-- The forward coefficients, kept. -/
theorem coefsKeptF (b : Fin 4) (t : Fin 2048) (k : Fin 48) : (at6 m c (Proc.devRef .tc main_v20) : FVec Ideal S4x2048x48 .f32) (ix3 b t k) = dbc (uF m c) (seq m c b) t k :=
  (congrFun (keep6 m c main_v20 (by decide +kernel)) (ix3 b t k)).trans (coefsF m c b t k)

/-- The forward decays. -/
theorem fallsF (b : Fin 4) (t : Fin 2048) (j : Fin 256) (n : Fin 16) : (at7 m c (Proc.devRef .tc main_v45) : FVec Ideal S2048x4x256x16 .f32) (ix4 t b j n) = decay (uF m c) (seq m c b) j n t :=
  fallF (at6 m c) (uF m c) (seq m c b) b (stepsF m c b) (fun j n => (congrFun (args6 m c main_arg7 (by decide +kernel)) (ix2 j n))) t j n

/-- The forward drives. -/
theorem pushesF (b : Fin 4) (t : Fin 2048) (j : Fin 256) (n : Fin 16) : (at7 m c (Proc.devRef .tc main_v46) : FVec Ideal S2048x4x256x16 .f32) (ix4 t b j n) = drive (uF m c) (seq m c b) j n t :=
  pushF (at6 m c) (uF m c) (seq m c b) b (stepsF m c b) (activeKeptF m c b) (coefsKeptF m c b) t j n

/-- The forward readout coefficients. -/
theorem sightsF (b : Fin 4) (t : Fin 2048) (n : Fin 16) : (at7 m c (Proc.devRef .tc main_v47) : FVec Ideal S2048x4x16 .f32) (ix3 t b n) = dbc (uF m c) (seq m c b) t ⟨32 + n.val, by omega⟩ :=
  sightF (at6 m c) (uF m c) (seq m c b) b (coefsKeptF m c b) t n

/-- The same, kept until the scan's operands are gathered. -/
theorem fallsKeptF (b : Fin 4) (t : Fin 2048) (j : Fin 256) (n : Fin 16) : (at14 m c (Proc.devRef .tc main_v45) : FVec Ideal S2048x4x256x16 .f32) (ix4 t b j n) = decay (uF m c) (seq m c b) j n t :=
  (congrFun ((keep14 m c main_v45 (by decide +kernel)).trans ((keep13 m c main_v45 (by decide +kernel)).trans ((keep12 m c main_v45 (by decide +kernel)).trans ((keep11 m c main_v45 (by decide +kernel)).trans ((keep10 m c main_v45 (by decide +kernel)).trans ((keep9 m c main_v45 (by decide +kernel)).trans (keep8 m c main_v45 (by decide +kernel)))))))) (ix4 t b j n)).trans (fallsF m c b t j n)

/-- The same, among the scan's operands. -/
theorem fallsEntryF (b : Fin 4) (t : Fin 2048) (j : Fin 256) (n : Fin 16) : (at15 m c (Proc.devRef .tc main_v100_0) : FVec Ideal S2048x4x256x16 .f32) (ix4 t b j n) = decay (uF m c) (seq m c b) j n t := by
  refine (congrFun (?_ : _ = at14 m c (Proc.devRef .tc main_v45)) (ix4 t b j n)).trans (fallsKeptF m c b t j n)
  unfold at15
  after_reads_simp
  simp only [id_eq]

/-- The same, kept until the scan's operands are gathered. -/
theorem pushesKeptF (b : Fin 4) (t : Fin 2048) (j : Fin 256) (n : Fin 16) : (at14 m c (Proc.devRef .tc main_v46) : FVec Ideal S2048x4x256x16 .f32) (ix4 t b j n) = drive (uF m c) (seq m c b) j n t :=
  (congrFun ((keep14 m c main_v46 (by decide +kernel)).trans ((keep13 m c main_v46 (by decide +kernel)).trans ((keep12 m c main_v46 (by decide +kernel)).trans ((keep11 m c main_v46 (by decide +kernel)).trans ((keep10 m c main_v46 (by decide +kernel)).trans ((keep9 m c main_v46 (by decide +kernel)).trans (keep8 m c main_v46 (by decide +kernel)))))))) (ix4 t b j n)).trans (pushesF m c b t j n)

/-- The same, among the scan's operands. -/
theorem pushesEntryF (b : Fin 4) (t : Fin 2048) (j : Fin 256) (n : Fin 16) : (at15 m c (Proc.devRef .tc main_v100_1) : FVec Ideal S2048x4x256x16 .f32) (ix4 t b j n) = drive (uF m c) (seq m c b) j n t := by
  refine (congrFun (?_ : _ = at14 m c (Proc.devRef .tc main_v46)) (ix4 t b j n)).trans (pushesKeptF m c b t j n)
  unfold at15
  after_reads_simp
  simp only [id_eq]

/-- The same, kept until the scan's operands are gathered. -/
theorem sightsKeptF (b : Fin 4) (t : Fin 2048) (n : Fin 16) : (at14 m c (Proc.devRef .tc main_v47) : FVec Ideal S2048x4x16 .f32) (ix3 t b n) = dbc (uF m c) (seq m c b) t ⟨32 + n.val, by omega⟩ :=
  (congrFun ((keep14 m c main_v47 (by decide +kernel)).trans ((keep13 m c main_v47 (by decide +kernel)).trans ((keep12 m c main_v47 (by decide +kernel)).trans ((keep11 m c main_v47 (by decide +kernel)).trans ((keep10 m c main_v47 (by decide +kernel)).trans ((keep9 m c main_v47 (by decide +kernel)).trans (keep8 m c main_v47 (by decide +kernel)))))))) (ix3 t b n)).trans (sightsF m c b t n)

/-- The same, among the scan's operands. -/
theorem sightsEntryF (b : Fin 4) (t : Fin 2048) (n : Fin 16) : (at15 m c (Proc.devRef .tc main_v100_2) : FVec Ideal S2048x4x16 .f32) (ix3 t b n) = dbc (uF m c) (seq m c b) t ⟨32 + n.val, by omega⟩ := by
  refine (congrFun (?_ : _ = at14 m c (Proc.devRef .tc main_v47)) (ix3 t b n)).trans (sightsKeptF m c b t n)
  unfold at15
  after_reads_simp
  simp only [id_eq]

/-- The forward projection's second half where the scan begins. -/
theorem secondEntryF (b : Fin 4) (t : Fin 2048) (j : Fin 256) : (at15 m c (Proc.devRef .tc main_v2) : FVec Ideal S4x2048x256 .f32) (ix3 b t j) = proj (uF m c) (seq m c b) t ⟨256 + j.val, by omega⟩ :=
  (congrFun ((keep15 m c main_v2 (by decide +kernel)).trans ((keep14 m c main_v2 (by decide +kernel)).trans ((keep13 m c main_v2 (by decide +kernel)).trans ((keep12 m c main_v2 (by decide +kernel)).trans ((keep11 m c main_v2 (by decide +kernel)).trans ((keep10 m c main_v2 (by decide +kernel)).trans ((keep9 m c main_v2 (by decide +kernel)).trans ((keep8 m c main_v2 (by decide +kernel)).trans ((keep7 m c main_v2 (by decide +kernel)).trans ((keep6 m c main_v2 (by decide +kernel)).trans ((keep5 m c main_v2 (by decide +kernel)).trans ((keep4 m c main_v2 (by decide +kernel)).trans ((keep3 m c main_v2 (by decide +kernel)).trans (keep2 m c main_v2 (by decide +kernel))))))))))))))) (ix3 b t j)).trans (secondF m c b t j)

/-- The forward activation where the scan begins. -/
theorem activeEntryF (b : Fin 4) (t : Fin 2048) (j : Fin 256) : (at15 m c (Proc.devRef .tc main_v19) : FVec Ideal S4x2048x256 .f32) (ix3 b t j) = xc (uF m c) (seq m c b) t j :=
  (congrFun ((keep15 m c main_v19 (by decide +kernel)).trans ((keep14 m c main_v19 (by decide +kernel)).trans ((keep13 m c main_v19 (by decide +kernel)).trans ((keep12 m c main_v19 (by decide +kernel)).trans ((keep11 m c main_v19 (by decide +kernel)).trans ((keep10 m c main_v19 (by decide +kernel)).trans ((keep9 m c main_v19 (by decide +kernel)).trans ((keep8 m c main_v19 (by decide +kernel)).trans ((keep7 m c main_v19 (by decide +kernel)).trans ((keep6 m c main_v19 (by decide +kernel)).trans (keep5 m c main_v19 (by decide +kernel)))))))))))) (ix3 b t j)).trans (activeF m c b t j)

/-- The backward projection's first half. -/
theorem firstR (b : Fin 4) (t : Fin 2048) (j : Fin 256) : (at9 m c (Proc.devRef .tc main_v50) : FVec Ideal S4x2048x256 .f32) (ix3 b t j) = proj (uR m c) (seqR m c b) t ⟨j.val, by omega⟩ :=
  loR (at8 m c) (uR m c) (seqR m c b) b (fun t d => (turned (at7 m c) b t d).trans (congrFun (args7 m c main_arg0 (by decide +kernel)) (ix3 b (back t) d))) (fun e d => (congrFun (args8 m c main_arg10 (by decide +kernel)) (ix2 e d))) t j

/-- The backward projection's second half. -/
theorem secondR (b : Fin 4) (t : Fin 2048) (j : Fin 256) : (at9 m c (Proc.devRef .tc main_v51) : FVec Ideal S4x2048x256 .f32) (ix3 b t j) = proj (uR m c) (seqR m c b) t ⟨256 + j.val, by omega⟩ :=
  hiR (at8 m c) (uR m c) (seqR m c b) b (fun t d => (turned (at7 m c) b t d).trans (congrFun (args7 m c main_arg0 (by decide +kernel)) (ix3 b (back t) d))) (fun e d => (congrFun (args8 m c main_arg10 (by decide +kernel)) (ix2 e d))) t j

/-- What the backward direction puts before the first time step. -/
theorem edgeR : (at9 m c (Proc.devRef .tc main_c_0) : IVec S_ 32) (Shape.Idx.first h_S_) = 0#32 := by
  unfold at9
  after_reads_at

/-- The backward projection a step earlier. -/
theorem shiftedR (b : Fin 4) (t : Fin 2048) (j : Fin 256) : (at10 m c (Proc.devRef .tc main_v52) : FVec Ideal S4x2049x256 .f32) (ix3 b ⟨t.val, by omega⟩ j) = prev (uR m c) (seqR m c b) t j :=
  beforeR (at9 m c) (uR m c) (seqR m c b) b (firstR m c b) (edgeR m c) t j

/-- The backward projection's first half, kept. -/
theorem firstKeptR (b : Fin 4) (t : Fin 2048) (j : Fin 256) : (at10 m c (Proc.devRef .tc main_v50) : FVec Ideal S4x2048x256 .f32) (ix3 b t j) = proj (uR m c) (seqR m c b) t ⟨j.val, by omega⟩ :=
  (congrFun (keep10 m c main_v50 (by decide +kernel)) (ix3 b t j)).trans (firstR m c b t j)

/-- The backward convolution. -/
theorem convolvedR (b : Fin 4) (t : Fin 2048) (j : Fin 256) : (at11 m c (Proc.devRef .tc main_v67) : FVec Ideal S4x2048x256 .f32) (ix3 b t j) = prev (uR m c) (seqR m c b) t j * (uR m c).w0 j + proj (uR m c) (seqR m c b) t ⟨j.val, by omega⟩ * (uR m c).w1 j + (uR m c).cb j :=
  convR (at10 m c) (uR m c) (seqR m c b) b (firstKeptR m c b) (shiftedR m c b) (fun j => (congrFun (args10 m c main_arg11 (by decide +kernel)) (ix2 j 0))) (fun j => (congrFun (args10 m c main_arg11 (by decide +kernel)) (ix2 j 1))) (fun j => (congrFun (args10 m c main_arg12 (by decide +kernel)) (ix1 j))) t j

/-- The backward activation. -/
theorem activeR (b : Fin 4) (t : Fin 2048) (j : Fin 256) : (at12 m c (Proc.devRef .tc main_v68) : FVec Ideal S4x2048x256 .f32) (ix3 b t j) = xc (uR m c) (seqR m c b) t j :=
  actR (at11 m c) (uR m c) (seqR m c b) b (convolvedR m c b) t j

/-- The backward coefficients. -/
theorem coefsR (b : Fin 4) (t : Fin 2048) (k : Fin 48) : (at13 m c (Proc.devRef .tc main_v69) : FVec Ideal S4x2048x48 .f32) (ix3 b t k) = dbc (uR m c) (seqR m c b) t k :=
  coefR (at12 m c) (uR m c) (seqR m c b) b (activeR m c b) (fun k d => (congrFun (args12 m c main_arg13 (by decide +kernel)) (ix2 k d))) t k

/-- The backward step before its softplus. -/
theorem gapsR (b : Fin 4) (t : Fin 2048) (j : Fin 256) : (at13 m c (Proc.devRef .tc main_v74) : FVec Ideal S4x2048x256 .f32) (ix3 b t j) = (∑ r : Fin 16, dbc (uR m c) (seqR m c b) t ⟨r.val, by omega⟩ * (uR m c).dw j r) + (uR m c).db j :=
  gapR (at12 m c) (uR m c) (seqR m c b) b (activeR m c b) (fun k d => (congrFun (args12 m c main_arg13 (by decide +kernel)) (ix2 k d))) (fun j r => (congrFun (args12 m c main_arg14 (by decide +kernel)) (ix2 j r))) (fun j => (congrFun (args12 m c main_arg15 (by decide +kernel)) (ix1 j))) t j

/-- The backward step. -/
theorem stepsR (b : Fin 4) (t : Fin 2048) (j : Fin 256) : (at14 m c (Proc.devRef .tc main_v75) : FVec Ideal S4x2048x256 .f32) (ix3 b t j) = dt (uR m c) (seqR m c b) t j :=
  stepR (at13 m c) (uR m c) (seqR m c b) b (gapsR m c b) t j

/-- The backward activation, kept. -/
theorem activeKeptR (b : Fin 4) (t : Fin 2048) (j : Fin 256) : (at14 m c (Proc.devRef .tc main_v68) : FVec Ideal S4x2048x256 .f32) (ix3 b t j) = xc (uR m c) (seqR m c b) t j :=
  (congrFun ((keep14 m c main_v68 (by decide +kernel)).trans (keep13 m c main_v68 (by decide +kernel))) (ix3 b t j)).trans (activeR m c b t j)

/-- The backward coefficients, kept. -/
theorem coefsKeptR (b : Fin 4) (t : Fin 2048) (k : Fin 48) : (at14 m c (Proc.devRef .tc main_v69) : FVec Ideal S4x2048x48 .f32) (ix3 b t k) = dbc (uR m c) (seqR m c b) t k :=
  (congrFun (keep14 m c main_v69 (by decide +kernel)) (ix3 b t k)).trans (coefsR m c b t k)

/-- The backward decays. -/
theorem fallsR (b : Fin 4) (t : Fin 2048) (j : Fin 256) (n : Fin 16) : (at15 m c (Proc.devRef .tc main_v100_3) : FVec Ideal S2048x4x256x16 .f32) (ix4 t b j n) = decay (uR m c) (seqR m c b) j n t :=
  fallR (at14 m c) (uR m c) (seqR m c b) b (stepsR m c b) (fun j n => (congrFun (args14 m c main_arg16 (by decide +kernel)) (ix2 j n))) t j n

/-- The backward drives. -/
theorem pushesR (b : Fin 4) (t : Fin 2048) (j : Fin 256) (n : Fin 16) : (at15 m c (Proc.devRef .tc main_v100_4) : FVec Ideal S2048x4x256x16 .f32) (ix4 t b j n) = drive (uR m c) (seqR m c b) j n t :=
  pushR (at14 m c) (uR m c) (seqR m c b) b (stepsR m c b) (activeKeptR m c b) (coefsKeptR m c b) t j n

/-- The backward readout coefficients. -/
theorem sightsR (b : Fin 4) (t : Fin 2048) (n : Fin 16) : (at15 m c (Proc.devRef .tc main_v100_5) : FVec Ideal S2048x4x16 .f32) (ix3 t b n) = dbc (uR m c) (seqR m c b) t ⟨32 + n.val, by omega⟩ :=
  sightR (at14 m c) (uR m c) (seqR m c b) b (coefsKeptR m c b) t n

/-- The backward projection's second half where the scan begins. -/
theorem secondEntryR (b : Fin 4) (t : Fin 2048) (j : Fin 256) : (at15 m c (Proc.devRef .tc main_v51) : FVec Ideal S4x2048x256 .f32) (ix3 b t j) = proj (uR m c) (seqR m c b) t ⟨256 + j.val, by omega⟩ :=
  (congrFun ((keep15 m c main_v51 (by decide +kernel)).trans ((keep14 m c main_v51 (by decide +kernel)).trans ((keep13 m c main_v51 (by decide +kernel)).trans ((keep12 m c main_v51 (by decide +kernel)).trans ((keep11 m c main_v51 (by decide +kernel)).trans (keep10 m c main_v51 (by decide +kernel))))))) (ix3 b t j)).trans (secondR m c b t j)

/-- The backward activation where the scan begins. -/
theorem activeEntryR (b : Fin 4) (t : Fin 2048) (j : Fin 256) : (at15 m c (Proc.devRef .tc main_v68) : FVec Ideal S4x2048x256 .f32) (ix3 b t j) = xc (uR m c) (seqR m c b) t j :=
  (congrFun ((keep15 m c main_v68 (by decide +kernel)).trans ((keep14 m c main_v68 (by decide +kernel)).trans (keep13 m c main_v68 (by decide +kernel)))) (ix3 b t j)).trans (activeR m c b t j)

/-- The forward state where the scan begins. -/
theorem zeroF (i : S4x256x16.Idx) : (at15 m c (Proc.devRef .tc main_v100_7) : FVec Ideal S4x256x16 .f32) i = (0 : EReal) := by
  unfold at15
  after_reads_simp
  simp only [id_eq]
  pointwise

/-- The backward state where the scan begins. -/
theorem zeroR (i : S4x256x16.Idx) : (at15 m c (Proc.devRef .tc main_v100_8) : FVec Ideal S4x256x16 .f32) i = (0 : EReal) := by
  unfold at15
  after_reads_simp
  simp only [id_eq]
  pointwise

end Cert.ReferenceIdeal.Value
-- ==== Proof.RefStep.lean ====
module

public import proofs.«01_k».proof.Proof.Gen.ReferenceIdeal.Run
public import proofs.«01_k».proof.Proof.Scan
public import Idealize.ShloMosaic.Lib.Pointwise
public import Idealize.ShloMosaic.Lib.DynamicIndex
public import Idealize.ShloMosaic.Lib.Pipeline.Value

/-!
# One step of the reference's scan

Step `k` reads row `k` of the multipliers, offsets and readout coefficients of one direction, advances
the states and writes row `k` of the readouts.
-/

@[expose] public section

set_option maxRecDepth 16384

open Idealize.ShloMosaic Idealize.SL.Sem Cert.Scan

namespace Cert.ReferenceIdeal.Value

open Cert.ReferenceIdeal Cert.ReferenceIdeal.Gen

/-- The states after step `k`, from those before it and the step's rows. -/
theorem advance_apply (A B : FVec Ideal S2048x4x256x16 .f32) (h : FVec Ideal S4x256x16 .f32)
    (x : Fin 4 → ℤ) (k : ℕ) (hk : k < 2048) (h0 : x 0 = k) (h1 : x 1 = 0) (h2 : x 2 = 0) (h3 : x 3 = 0)
    (b : Fin 4) (j : Fin 256) (n : Fin 16) :
    addf (mulf (shapeCast S4x256x16 (Host.dynamicSlice S1x4x256x16 A x sliceFits_S2048x4x256x16_S1x4x256x16)
        shapeCasts_S1x4x256x16_S4x256x16) h)
      (shapeCast S4x256x16 (Host.dynamicSlice S1x4x256x16 B x sliceFits_S2048x4x256x16_S1x4x256x16)
        shapeCasts_S1x4x256x16_S4x256x16) (ix3 b j n)
      = A (ix4 ⟨k, hk⟩ b j n) * h (ix3 b j n) + B (ix4 ⟨k, hk⟩ b j n) := by
  have hs : S2048x4x256x16.Slices ![k, 0, 0, 0] S1x4x256x16 :=
    ⟨rfl, fun a => by fin_cases a <;> simp <;> omega⟩
  have hx : ∀ a, x a = ((![k, 0, 0, 0] : Fin 4 → ℕ) a : ℤ) := by
    intro a
    fin_cases a
    exacts [h0, h1, h2, h3]
  rw [Host.dynamicSlice_eq_extractStridedSlice _ A x ![k, 0, 0, 0] _ hs hx,
    Host.dynamicSlice_eq_extractStridedSlice _ B x ![k, 0, 0, 0] _ hs hx]
  pointwise

/-- The readouts after step `k`: row `k` is the states times the step's coefficients, summed. -/
theorem write_apply (Y : FVec Ideal S2048x4x256 .f32) (h : FVec Ideal S4x256x16 .f32)
    (C : FVec Ideal S2048x4x16 .f32) (x : Fin 3 → ℤ) (k : ℕ) (hk : k < 2048) (h0 : x 0 = k) (h1 : x 1 = 0)
    (h2 : x 2 = 0) (t : Fin 2048) (b : Fin 4) (j : Fin 256) :
    Host.dynamicUpdateSlice Y (broadcastInDim S1x4x256 ![1, 2] bcast_S4x256_S1x4x256_1_2
      (Host.dotGeneral dot_S4x256x16_S4x16_S4x256_2_1_1_n_0_0 none h
        (shapeCast S4x16 (Host.dynamicSlice S1x4x16 C x sliceFits_S2048x4x16_S1x4x16)
          shapeCasts_S1x4x16_S4x16))) x updateFits_S2048x4x256_S1x4x256 (ix3 t b j)
      = if t.val = k then ∑ n : Fin 16, h (ix3 b j n) * C (ix3 t b n) else Y (ix3 t b j) := by
  have hs : S2048x4x16.Slices ![k, 0, 0] S1x4x16 := ⟨rfl, fun a => by fin_cases a <;> simp <;> omega⟩
  have hx : ∀ a, x a = ((![k, 0, 0] : Fin 3 → ℕ) a : ℤ) := by
    intro a
    fin_cases a
    exacts [h0, h1, h2]
  have hu : S2048x4x256.Slices ![k, 0, 0] S1x4x256 := ⟨rfl, fun a => by fin_cases a <;> simp <;> omega⟩
  rw [Host.dynamicSlice_eq_extractStridedSlice _ C x ![k, 0, 0] _ hs hx,
    Host.dynamicUpdateSlice_eq_updateSlice Y _ x _ ![k, 0, 0]
      (fun a => by
        have := hu.2 a
        rw [hx a]
        omega) hu]
  pointwise
  by_cases ht : t.val = k
  · rw [dif_pos ⟨by omega, by omega⟩, if_pos ht]
    have e : (⟨k, hk⟩ : Fin 2048) = t := Fin.ext ht.symm
    exact congrArg (fun q : Fin 2048 => ∑ n : Fin 16, h (ix3 b j n) * C (ix3 q b n)) e
  · rw [dif_neg (by omega), if_neg ht]

end Cert.ReferenceIdeal.Value
-- ==== Proof.RefLoop.lean ====
module

public import proofs.«01_k».proof.Proof.RefStep

/-!
# The reference's scan

Before step `k` both directions' states are the recurrence after `k` steps, and the readouts' rows below
`k` are the sums the steps wrote.
-/

@[expose] public section

set_option maxRecDepth 16384

open Idealize.ShloMosaic Idealize.SL.Sem Cert.Scan

namespace Cert.ReferenceIdeal.Value

open Cert.ReferenceIdeal Cert.ReferenceIdeal.Gen Idealize.ShloMosaic.StableHlo

variable (m : (ℓ : Loc nD τ sig) → Buf (Elt Ideal) ℓ) (c : Dev nD)

/-- A buffer's contents where the scan begins. -/
noncomputable abbrev entry (r : Ref sig .tc) := entryContents (F := Ideal) preI m c (Proc.devRef .tc r)

/-- A buffer's contents before step `k`. -/
noncomputable abbrev trip (k : ℕ) (c : Dev nD) (r : Ref sig .tc) := atK (F := Ideal) m k c (Proc.devRef .tc r)

/-- The recurrence's next state. -/
theorem state_next {f g : Fin 2048 → EReal} {k : ℕ} (hk : k < 2048) {h : EReal}
    (e : h = state (upTo f) (upTo g) k) :
    f ⟨k, hk⟩ * h + g ⟨k, hk⟩ = state (upTo f) (upTo g) (k + 1) := by
  simp only [state, upTo, dif_pos hk, e]

/-- One step of the scan on what it carries. -/
theorem next (k : ℕ) (r : Ref sig .tc) (h : r ∈ carriedRefs) :
    atK m (k + 1) c (Proc.devRef .tc r) = STEP (atK m k c) (Proc.devRef .tc r) :=
  trip_agree (atK m k c) r h

/-- What a step leaves alone is as at the scan's beginning. -/
theorem kept (r : Ref sig .tc) (h : r ∈ carriedRefs)
    (hs : ∀ V : Valuation τ sig (Elt Ideal), STEP V (Proc.devRef .tc r) = V (Proc.devRef .tc r)) :
    ∀ k, atK m k c (Proc.devRef .tc r) = entry m c r
  | 0 => rfl
  | k + 1 => by rw [next m c k r h, hs, kept r h hs k]

/-- The counter, read signed, is the step. -/
theorem start (k : ℕ) (hk : k < 2048) :
    ((atK m k c (Proc.devRef .tc main_v100_6) : IVec S_ 32) (Shape.Idx.first h_S_)).toInt = k := by
  rw [atK_ctr]
  unfold Scf.iv
  rw [BitVec.zero_add, BitVec.mul_one, BitVec.toInt_eq_toNat_of_lt] <;> rw [BitVec.toNat_ofNat] <;> omega

/-! ## The forward direction -/

/-- The forward states before step `k` are the recurrence after `k` steps. -/
theorem statesF (hz : ∀ i, entry m c main_v100_7 i = (0 : EReal)) (b : Fin 4) (j : Fin 256) (n : Fin 16) :
    ∀ k, k ≤ 2048 → (trip m k c main_v100_7 : FVec Ideal S4x256x16 .f32) (ix3 b j n)
      = state (upTo fun t => (entry m c main_v100_0 : FVec Ideal S2048x4x256x16 .f32) (ix4 t b j n))
          (upTo fun t => (entry m c main_v100_1 : FVec Ideal S2048x4x256x16 .f32) (ix4 t b j n)) k
  | 0, _ => hz (ix3 b j n)
  | k + 1, h => by
    have ih := statesF hz b j n k (by omega)
    refine (congrFun ((next m c k main_v100_7 (by decide)).trans (STEP_main_v100_7 _)) (ix3 b j n)).trans ?_
    unfold step_main_v100_7 res_main_while0b_v126
    refine (advance_apply _ _ _ _ k (by omega) (start m c k (by omega)) rfl rfl rfl b j n).trans ?_
    have eA : atK m k c (Proc.devRef .tc main_v100_0) = entry m c main_v100_0 := kept m c main_v100_0 (by decide) (fun V => STEP_main_v100_0 V) k
    have eB : atK m k c (Proc.devRef .tc main_v100_1) = entry m c main_v100_1 := kept m c main_v100_1 (by decide) (fun V => STEP_main_v100_1 V) k
    rw [eA, eB]
    exact state_next
      (f := fun t => (entry m c main_v100_0 : FVec Ideal S2048x4x256x16 .f32) (ix4 t b j n))
      (g := fun t => (entry m c main_v100_1 : FVec Ideal S2048x4x256x16 .f32) (ix4 t b j n)) (by omega) ih

/-- The forward readouts before step `k`: the rows below `k` are written. -/
theorem readsF (hz : ∀ i, entry m c main_v100_7 i = (0 : EReal)) (t : Fin 2048) (b : Fin 4) (j : Fin 256) :
    ∀ k, k ≤ 2048 → t.val < k → (trip m k c main_v100_9 : FVec Ideal S2048x4x256 .f32) (ix3 t b j)
      = ∑ n : Fin 16, state (upTo fun t => (entry m c main_v100_0 : FVec Ideal S2048x4x256x16 .f32) (ix4 t b j n))
          (upTo fun t => (entry m c main_v100_1 : FVec Ideal S2048x4x256x16 .f32) (ix4 t b j n)) (t.val + 1)
        * (entry m c main_v100_2 : FVec Ideal S2048x4x16 .f32) (ix3 t b n)
  | 0, _, h => absurd h (by omega)
  | k + 1, h, ht => by
    have e := next m c k main_v100_7 (by decide)
    rw [STEP_main_v100_7] at e
    refine (congrFun ((next m c k main_v100_9 (by decide)).trans (STEP_main_v100_9 _)) (ix3 t b j)).trans ?_
    unfold step_main_v100_9
    refine (write_apply _ _ _ _ k (by omega) (start m c k (by omega)) rfl rfl t b j).trans ?_
    by_cases hk : t.val = k
    · subst hk
      rw [if_pos rfl]
      refine Finset.sum_congr rfl fun n _ => ?_
      have s := statesF m c hz b j n (t.val + 1) h
      have eC : atK m t.val c (Proc.devRef .tc main_v100_2) = entry m c main_v100_2 := kept m c main_v100_2 (by decide) (fun V => STEP_main_v100_2 V) t.val
      rw [eC]
      exact congrArg (fun z : EReal => z * _) ((congrFun e (ix3 b j n)).symm.trans s)
    · rw [if_neg hk]
      exact readsF hz t b j k (by omega) (by omega)

/-! ## The backward direction -/

/-- The backward states before step `k` are the recurrence after `k` steps. -/
theorem statesR (hz : ∀ i, entry m c main_v100_8 i = (0 : EReal)) (b : Fin 4) (j : Fin 256) (n : Fin 16) :
    ∀ k, k ≤ 2048 → (trip m k c main_v100_8 : FVec Ideal S4x256x16 .f32) (ix3 b j n)
      = state (upTo fun t => (entry m c main_v100_3 : FVec Ideal S2048x4x256x16 .f32) (ix4 t b j n))
          (upTo fun t => (entry m c main_v100_4 : FVec Ideal S2048x4x256x16 .f32) (ix4 t b j n)) k
  | 0, _ => hz (ix3 b j n)
  | k + 1, h => by
    have ih := statesR hz b j n k (by omega)
    refine (congrFun ((next m c k main_v100_8 (by decide)).trans (STEP_main_v100_8 _)) (ix3 b j n)).trans ?_
    unfold step_main_v100_8 res_main_while0b_v129
    refine (advance_apply _ _ _ _ k (by omega) (start m c k (by omega)) rfl rfl rfl b j n).trans ?_
    have eA : atK m k c (Proc.devRef .tc main_v100_3) = entry m c main_v100_3 := kept m c main_v100_3 (by decide) (fun V => STEP_main_v100_3 V) k
    have eB : atK m k c (Proc.devRef .tc main_v100_4) = entry m c main_v100_4 := kept m c main_v100_4 (by decide) (fun V => STEP_main_v100_4 V) k
    rw [eA, eB]
    exact state_next
      (f := fun t => (entry m c main_v100_3 : FVec Ideal S2048x4x256x16 .f32) (ix4 t b j n))
      (g := fun t => (entry m c main_v100_4 : FVec Ideal S2048x4x256x16 .f32) (ix4 t b j n)) (by omega) ih

/-- The backward readouts before step `k`: the rows below `k` are written. -/
theorem readsR (hz : ∀ i, entry m c main_v100_8 i = (0 : EReal)) (t : Fin 2048) (b : Fin 4) (j : Fin 256) :
    ∀ k, k ≤ 2048 → t.val < k → (trip m k c main_v100_10 : FVec Ideal S2048x4x256 .f32) (ix3 t b j)
      = ∑ n : Fin 16, state (upTo fun t => (entry m c main_v100_3 : FVec Ideal S2048x4x256x16 .f32) (ix4 t b j n))
          (upTo fun t => (entry m c main_v100_4 : FVec Ideal S2048x4x256x16 .f32) (ix4 t b j n)) (t.val + 1)
        * (entry m c main_v100_5 : FVec Ideal S2048x4x16 .f32) (ix3 t b n)
  | 0, _, h => absurd h (by omega)
  | k + 1, h, ht => by
    have e := next m c k main_v100_8 (by decide)
    rw [STEP_main_v100_8] at e
    refine (congrFun ((next m c k main_v100_10 (by decide)).trans (STEP_main_v100_10 _)) (ix3 t b j)).trans ?_
    unfold step_main_v100_10
    refine (write_apply _ _ _ _ k (by omega) (start m c k (by omega)) rfl rfl t b j).trans ?_
    by_cases hk : t.val = k
    · subst hk
      rw [if_pos rfl]
      refine Finset.sum_congr rfl fun n _ => ?_
      have s := statesR m c hz b j n (t.val + 1) h
      have eC : atK m t.val c (Proc.devRef .tc main_v100_5) = entry m c main_v100_5 := kept m c main_v100_5 (by decide) (fun V => STEP_main_v100_5 V) t.val
      rw [eC]
      exact congrArg (fun z : EReal => z * _) ((congrFun e (ix3 b j n)).symm.trans s)
    · rw [if_neg hk]
      exact readsR hz t b j k (by omega) (by omega)

end Cert.ReferenceIdeal.Value
-- ==== Proof.RefExit.lean ====
module

public import proofs.«01_k».proof.Proof.RefEntry
public import proofs.«01_k».proof.Proof.RefLoop

/-!
# What the reference returns

The lines after the scan, read at an index, out of the scan's readouts and what the stretches before the
scan left: the result is the same function of the arguments that the kernel's array holds.
-/

@[expose] public section

set_option maxRecDepth 16384

open Idealize.ShloMosaic Idealize.SL.Sem Cert.Mamba Cert.Scan

namespace Cert.ReferenceIdeal.Value

open Cert.ReferenceIdeal Cert.ReferenceIdeal.Gen Idealize.ShloMosaic.StableHlo

section Stretches

variable (V : Valuation τ sig (Elt Ideal)) (w : Weights) (X : Fin 2048 → Fin 256 → EReal) (b : Fin 4)

/-- The forward readouts and the skipped activation. -/
theorem blendF
    (hy : ∀ t j, (V (Proc.devRef .tc main_v100_9) : FVec Ideal S2048x4x256 .f32) (ix3 t b j) = mix w X t j)
    (hs : ∀ j, (V (Proc.devRef .tc main_arg8) : FVec Ideal S256 .f32) (ix1 j) = w.skip j)
    (ha : ∀ t j, (V (Proc.devRef .tc main_v19) : FVec Ideal S4x2048x256 .f32) (ix3 b t j) = xc w X t j)
    (t : Fin 2048)
    (j : Fin 256)
    : (after (hostOps0_15 (F := Ideal)) V (Proc.devRef .tc main_v105) : FVec Ideal S4x2048x256 .f32) (ix3 b t j) = mix w X t j + w.skip j * xc w X t j := by
  after_reads_at
  exact congrArg₂ (· + ·) (hy t j) (congrArg₂ (· * ·) (hs j) (ha t j))

/-- The forward gate. -/
theorem gateF
    (hz : ∀ t j, (V (Proc.devRef .tc main_v2) : FVec Ideal S4x2048x256 .f32) (ix3 b t j) = proj w X t ⟨256 + j.val, by omega⟩)
    (t : Fin 2048)
    (j : Fin 256)
    : (after (hostOps0_16 (F := Ideal)) V (Proc.devRef .tc main_v106) : FVec Ideal S4x2048x256 .f32) (ix3 b t j) = silu (proj w X t ⟨256 + j.val, by omega⟩) := by
  after_reads_at
  exact congrArg silu (hz t j)

/-- The forward output. -/
theorem lastF
    (hm : ∀ t j, (V (Proc.devRef .tc main_v105) : FVec Ideal S4x2048x256 .f32) (ix3 b t j) = mix w X t j + w.skip j * xc w X t j)
    (hg : ∀ t j, (V (Proc.devRef .tc main_v106) : FVec Ideal S4x2048x256 .f32) (ix3 b t j) = silu (proj w X t ⟨256 + j.val, by omega⟩))
    (ho : ∀ i j, (V (Proc.devRef .tc main_arg9) : FVec Ideal S256x256 .f32) (ix2 i j) = w.ow i j)
    (t : Fin 2048)
    (i : Fin 256)
    : (after (hostOps0_17 (F := Ideal)) V (Proc.devRef .tc main_v108) : FVec Ideal S4x2048x256 .f32) (ix3 b t i) = out w X t i := by
  after_reads_at
  exact Finset.sum_congr rfl fun j _ => by exact congrArg₂ (· * ·) (congrArg₂ (· * ·) (hm t j) (hg t j)) (ho i j)

/-- The backward readouts and the skipped activation. -/
theorem blendR
    (hy : ∀ t j, (V (Proc.devRef .tc main_v100_10) : FVec Ideal S2048x4x256 .f32) (ix3 t b j) = mix w X t j)
    (hs : ∀ j, (V (Proc.devRef .tc main_arg17) : FVec Ideal S256 .f32) (ix1 j) = w.skip j)
    (ha : ∀ t j, (V (Proc.devRef .tc main_v68) : FVec Ideal S4x2048x256 .f32) (ix3 b t j) = xc w X t j)
    (t : Fin 2048)
    (j : Fin 256)
    : (after (hostOps0_17 (F := Ideal)) V (Proc.devRef .tc main_v113) : FVec Ideal S4x2048x256 .f32) (ix3 b t j) = mix w X t j + w.skip j * xc w X t j := by
  after_reads_at
  exact congrArg₂ (· + ·) (hy t j) (congrArg₂ (· * ·) (hs j) (ha t j))

/-- The backward gate. -/
theorem gateR
    (hz : ∀ t j, (V (Proc.devRef .tc main_v51) : FVec Ideal S4x2048x256 .f32) (ix3 b t j) = proj w X t ⟨256 + j.val, by omega⟩)
    (t : Fin 2048)
    (j : Fin 256)
    : (after (hostOps0_18 (F := Ideal)) V (Proc.devRef .tc main_v114) : FVec Ideal S4x2048x256 .f32) (ix3 b t j) = silu (proj w X t ⟨256 + j.val, by omega⟩) := by
  after_reads_at
  exact congrArg silu (hz t j)

/-- The backward output. -/
theorem lastR
    (hm : ∀ t j, (V (Proc.devRef .tc main_v113) : FVec Ideal S4x2048x256 .f32) (ix3 b t j) = mix w X t j + w.skip j * xc w X t j)
    (hg : ∀ t j, (V (Proc.devRef .tc main_v114) : FVec Ideal S4x2048x256 .f32) (ix3 b t j) = silu (proj w X t ⟨256 + j.val, by omega⟩))
    (ho : ∀ i j, (V (Proc.devRef .tc main_arg18) : FVec Ideal S256x256 .f32) (ix2 i j) = w.ow i j)
    (t : Fin 2048)
    (i : Fin 256)
    : (after (hostOps0_19 (F := Ideal)) V (Proc.devRef .tc main_v116) : FVec Ideal S4x2048x256 .f32) (ix3 b t i) = out w X t i := by
  after_reads_at
  exact Finset.sum_congr rfl fun j _ => by exact congrArg₂ (· * ·) (congrArg₂ (· * ·) (hm t j) (hg t j)) (ho i j)

/-- The backward output with its time turned round again. -/
theorem turnedOut (t : Fin 2048) (d : Fin 256) :
    (after (hostOps0_20 (F := Ideal)) V (Proc.devRef .tc main_v117) : FVec Ideal S4x2048x256 .f32) (ix3 b t d)
      = (V (Proc.devRef .tc main_v116) : FVec Ideal S4x2048x256 .f32) (ix3 b (back t) d) := by
  after_reads_at
  have e : t.rev = back t := Fin.ext (by simp only [Fin.val_rev, back]; omega)
  exact congrArg (fun q : Fin 2048 => (V (Proc.devRef .tc main_v116) : FVec Ideal S4x2048x256 .f32) (ix3 b q d)) e

/-- The result: the two directions' sum. -/
theorem summed (t : Fin 2048) (i : Fin 256) :
    (after (hostOps0_21 (F := Ideal)) V (Proc.devRef .tc main_v118) : FVec Ideal S4x2048x256 .f32) (ix3 b t i)
      = (show EReal from (V (Proc.devRef .tc main_v108) : FVec Ideal S4x2048x256 .f32) (ix3 b t i)) + (show EReal from (V (Proc.devRef .tc main_v117) : FVec Ideal S4x2048x256 .f32) (ix3 b t i)) := by
  after_reads_at

/-- A readout out of a recurrence on the decays and the drives. -/
theorem mix_of (t : Fin 2048) (j : Fin 256) (f g : Fin 16 → Fin 2048 → EReal) (s : Fin 16 → EReal)
    (hf : ∀ n, f n = decay w X j n) (hg : ∀ n, g n = drive w X j n)
    (hs : ∀ n, s n = dbc w X t ⟨32 + n.val, by omega⟩) :
    ∑ n, state (upTo (f n)) (upTo (g n)) (t.val + 1) * s n = mix w X t j :=
  Finset.sum_congr rfl fun n _ => by
    rw [hf, hg, hs]
    exact mul_comm _ _

end Stretches

variable (m : (ℓ : Loc nD τ sig) → Buf (Elt Ideal) ℓ) (c : Dev nD)

/-- The buffers the lines after the scan read that no step of it writes. -/
def spared : List (Ref sig .tc) := inputs ++ [main_v2, main_v19, main_v51, main_v68]

/-- No step of the scan writes them. -/
theorem sparedBy (r : Ref sig .tc) (h : r ∈ spared) : r ∉ condOps_W ∧ r ∉ while0Ops0_W ∧ r ∉ while0Ops0_1_W ∧ r ∉ while0Ops0_2_W ∧ r ∉ while0Ops0_3_W ∧ r ∉ while0Ops0_4_W ∧ r ∉ while0Ops0_5_W ∧ r ∉ while0Ops0_6_W ∧ r ∉ while0Ops0_7_W ∧ r ∉ while0Ops0_8_W ∧ r ∉ while0Ops0_9_W :=
  (by decide +kernel : ∀ r ∈ spared, r ∉ condOps_W ∧ r ∉ while0Ops0_W ∧ r ∉ while0Ops0_1_W ∧ r ∉ while0Ops0_2_W ∧ r ∉ while0Ops0_3_W ∧ r ∉ while0Ops0_4_W ∧ r ∉ while0Ops0_5_W ∧ r ∉ while0Ops0_6_W ∧ r ∉ while0Ops0_7_W ∧ r ∉ while0Ops0_8_W ∧ r ∉ while0Ops0_9_W) r h

/-- So they come through the scan as they entered it. -/
theorem through (r : Ref sig .tc) (h : r ∈ spared) : ∀ k, atK m k c (Proc.devRef .tc r) = at15 m c (Proc.devRef .tc r)
  | 0 => rfl
  | k + 1 => by
    obtain ⟨hc, h0, h1, h2, h3, h4, h5, h6, h7, h8, h9⟩ := sparedBy r h
    refine Eq.trans ?_ (through r h k)
    change after while0Ops0_9 (after while0Ops0_8 (after while0Ops0_7 (after while0Ops0_6 (after while0Ops0_5
      (after while0Ops0_4 (after while0Ops0_3 (after while0Ops0_2 (after while0Ops0_1 (after while0Ops0
        (after condOps (atK m k c))))))))))) (Proc.devRef .tc r) = _
    exact (after_of_writes_sub _ _ while0Ops0_9_writes h9).trans (
      (after_of_writes_sub _ _ while0Ops0_8_writes h8).trans (
      (after_of_writes_sub _ _ while0Ops0_7_writes h7).trans (
      (after_of_writes_sub _ _ while0Ops0_6_writes h6).trans (
      (after_of_writes_sub _ _ while0Ops0_5_writes h5).trans (
      (after_of_writes_sub _ _ while0Ops0_4_writes h4).trans (
      (after_of_writes_sub _ _ while0Ops0_3_writes h3).trans (
      (after_of_writes_sub _ _ while0Ops0_2_writes h2).trans (
      (after_of_writes_sub _ _ while0Ops0_1_writes h1).trans (
      (after_of_writes_sub _ _ while0Ops0_writes h0).trans (
      after_of_writes_sub _ _ condOps_writes hc))))))))))

/-- The buffers where the scan ends. -/
noncomputable def exit0 : Valuation τ sig (Elt Ideal) := after condOps (atK m 2048 c)

/-- What the scan spares, where it ends. -/
theorem spare0 (r : Ref sig .tc) (h : r ∈ spared) : exit0 m c (Proc.devRef .tc r) = at15 m c (Proc.devRef .tc r) :=
  (after_of_writes_sub _ _ condOps_writes (sparedBy r h).1).trans (through m c r h 2048)

/-- The arguments, where the scan ends. -/
theorem exitArgs0 (r : Ref sig .tc) (h : r ∈ inputs) : exit0 m c (Proc.devRef .tc r) = launchContents m c (Proc.devRef .tc r) :=
  (spare0 m c r (List.mem_append_left _ h)).trans (args15 m c r h)

/-- What the condition doesn't write, where the scan ends. -/
theorem exitKeep0 (r : Ref sig .tc) (h : r ∉ condOps_W) : exit0 m c (Proc.devRef .tc r) = trip m 2048 c r :=
  after_of_writes_sub _ _ condOps_writes h

/-- What stretch 15 writes. -/
abbrev hostOps0_15_W : List (Ref sig .tc) := [main_v101, main_v102, main_v103, main_v104, main_v105]

/-- It writes nothing else. -/
theorem hostOps0_15_writes : (hostOps0_15 : List (HloOp τ sig (Elt Ideal))).Forall
    fun op => op.writes ⊆ (hostOps0_15_W.map (Proc.devRef (τ := τ) .tc)).toFinset :=
  StableHlo.forall_writes_sub_of_map rfl

/-- The buffers after 1 stretch after the scan. -/
noncomputable def exit1 : Valuation τ sig (Elt Ideal) := after hostOps0_15 (exit0 m c)

/-- That stretch leaves alone what it doesn't write. -/
theorem exitKeep1 (r : Ref sig .tc) (h : r ∉ hostOps0_15_W) :
    exit1 m c (Proc.devRef .tc r) = exit0 m c (Proc.devRef .tc r) :=
  after_of_writes_sub _ _ hostOps0_15_writes h

/-- The arguments after it. -/
theorem exitArgs1 (r : Ref sig .tc) (h : r ∈ inputs) :
    exit1 m c (Proc.devRef .tc r) = launchContents m c (Proc.devRef .tc r) :=
  (exitKeep1 m c r ((by decide +kernel : ∀ r ∈ inputs, r ∉ hostOps0_15_W) r h)).trans (exitArgs0 m c r h)

/-- What stretch 16 writes. -/
abbrev hostOps0_16_W : List (Ref sig .tc) := [main_call15_v0, main_call15_v1, main_call15_cst, main_call15_v2, main_call15_v3, main_call15_cst_0, main_call15_v4, main_call15_v5, main_v106]

/-- It writes nothing else. -/
theorem hostOps0_16_writes : (hostOps0_16 : List (HloOp τ sig (Elt Ideal))).Forall
    fun op => op.writes ⊆ (hostOps0_16_W.map (Proc.devRef (τ := τ) .tc)).toFinset :=
  StableHlo.forall_writes_sub_of_map rfl

/-- The buffers after 2 stretches after the scan. -/
noncomputable def exit2 : Valuation τ sig (Elt Ideal) := after hostOps0_16 (exit1 m c)

/-- That stretch leaves alone what it doesn't write. -/
theorem exitKeep2 (r : Ref sig .tc) (h : r ∉ hostOps0_16_W) :
    exit2 m c (Proc.devRef .tc r) = exit1 m c (Proc.devRef .tc r) :=
  after_of_writes_sub _ _ hostOps0_16_writes h

/-- The arguments after it. -/
theorem exitArgs2 (r : Ref sig .tc) (h : r ∈ inputs) :
    exit2 m c (Proc.devRef .tc r) = launchContents m c (Proc.devRef .tc r) :=
  (exitKeep2 m c r ((by decide +kernel : ∀ r ∈ inputs, r ∉ hostOps0_16_W) r h)).trans (exitArgs1 m c r h)

/-- What stretch 17 writes. -/
abbrev hostOps0_17_W : List (Ref sig .tc) := [main_v107, main_v108, main_v109, main_v110, main_v111, main_v112, main_v113]

/-- It writes nothing else. -/
theorem hostOps0_17_writes : (hostOps0_17 : List (HloOp τ sig (Elt Ideal))).Forall
    fun op => op.writes ⊆ (hostOps0_17_W.map (Proc.devRef (τ := τ) .tc)).toFinset :=
  StableHlo.forall_writes_sub_of_map rfl

/-- The buffers after 3 stretches after the scan. -/
noncomputable def exit3 : Valuation τ sig (Elt Ideal) := after hostOps0_17 (exit2 m c)

/-- That stretch leaves alone what it doesn't write. -/
theorem exitKeep3 (r : Ref sig .tc) (h : r ∉ hostOps0_17_W) :
    exit3 m c (Proc.devRef .tc r) = exit2 m c (Proc.devRef .tc r) :=
  after_of_writes_sub _ _ hostOps0_17_writes h

/-- The arguments after it. -/
theorem exitArgs3 (r : Ref sig .tc) (h : r ∈ inputs) :
    exit3 m c (Proc.devRef .tc r) = launchContents m c (Proc.devRef .tc r) :=
  (exitKeep3 m c r ((by decide +kernel : ∀ r ∈ inputs, r ∉ hostOps0_17_W) r h)).trans (exitArgs2 m c r h)

/-- What stretch 18 writes. -/
abbrev hostOps0_18_W : List (Ref sig .tc) := [main_call16_v0, main_call16_v1, main_call16_cst, main_call16_v2, main_call16_v3, main_call16_cst_0, main_call16_v4, main_call16_v5, main_v114]

/-- It writes nothing else. -/
theorem hostOps0_18_writes : (hostOps0_18 : List (HloOp τ sig (Elt Ideal))).Forall
    fun op => op.writes ⊆ (hostOps0_18_W.map (Proc.devRef (τ := τ) .tc)).toFinset :=
  StableHlo.forall_writes_sub_of_map rfl

/-- The buffers after 4 stretches after the scan. -/
noncomputable def exit4 : Valuation τ sig (Elt Ideal) := after hostOps0_18 (exit3 m c)

/-- That stretch leaves alone what it doesn't write. -/
theorem exitKeep4 (r : Ref sig .tc) (h : r ∉ hostOps0_18_W) :
    exit4 m c (Proc.devRef .tc r) = exit3 m c (Proc.devRef .tc r) :=
  after_of_writes_sub _ _ hostOps0_18_writes h

/-- The arguments after it. -/
theorem exitArgs4 (r : Ref sig .tc) (h : r ∈ inputs) :
    exit4 m c (Proc.devRef .tc r) = launchContents m c (Proc.devRef .tc r) :=
  (exitKeep4 m c r ((by decide +kernel : ∀ r ∈ inputs, r ∉ hostOps0_18_W) r h)).trans (exitArgs3 m c r h)

/-- What stretch 19 writes. -/
abbrev hostOps0_19_W : List (Ref sig .tc) := [main_v115, main_v116]

/-- It writes nothing else. -/
theorem hostOps0_19_writes : (hostOps0_19 : List (HloOp τ sig (Elt Ideal))).Forall
    fun op => op.writes ⊆ (hostOps0_19_W.map (Proc.devRef (τ := τ) .tc)).toFinset :=
  StableHlo.forall_writes_sub_of_map rfl

/-- The buffers after 5 stretches after the scan. -/
noncomputable def exit5 : Valuation τ sig (Elt Ideal) := after hostOps0_19 (exit4 m c)

/-- That stretch leaves alone what it doesn't write. -/
theorem exitKeep5 (r : Ref sig .tc) (h : r ∉ hostOps0_19_W) :
    exit5 m c (Proc.devRef .tc r) = exit4 m c (Proc.devRef .tc r) :=
  after_of_writes_sub _ _ hostOps0_19_writes h

/-- The arguments after it. -/
theorem exitArgs5 (r : Ref sig .tc) (h : r ∈ inputs) :
    exit5 m c (Proc.devRef .tc r) = launchContents m c (Proc.devRef .tc r) :=
  (exitKeep5 m c r ((by decide +kernel : ∀ r ∈ inputs, r ∉ hostOps0_19_W) r h)).trans (exitArgs4 m c r h)

/-- What stretch 20 writes. -/
abbrev hostOps0_20_W : List (Ref sig .tc) := [main_v117]

/-- It writes nothing else. -/
theorem hostOps0_20_writes : (hostOps0_20 : List (HloOp τ sig (Elt Ideal))).Forall
    fun op => op.writes ⊆ (hostOps0_20_W.map (Proc.devRef (τ := τ) .tc)).toFinset :=
  StableHlo.forall_writes_sub_of_map rfl

/-- The buffers after 6 stretches after the scan. -/
noncomputable def exit6 : Valuation τ sig (Elt Ideal) := after hostOps0_20 (exit5 m c)

/-- That stretch leaves alone what it doesn't write. -/
theorem exitKeep6 (r : Ref sig .tc) (h : r ∉ hostOps0_20_W) :
    exit6 m c (Proc.devRef .tc r) = exit5 m c (Proc.devRef .tc r) :=
  after_of_writes_sub _ _ hostOps0_20_writes h

/-- The arguments after it. -/
theorem exitArgs6 (r : Ref sig .tc) (h : r ∈ inputs) :
    exit6 m c (Proc.devRef .tc r) = launchContents m c (Proc.devRef .tc r) :=
  (exitKeep6 m c r ((by decide +kernel : ∀ r ∈ inputs, r ∉ hostOps0_20_W) r h)).trans (exitArgs5 m c r h)

/-- What stretch 21 writes. -/
abbrev hostOps0_21_W : List (Ref sig .tc) := [main_v118]

/-- It writes nothing else. -/
theorem hostOps0_21_writes : (hostOps0_21 : List (HloOp τ sig (Elt Ideal))).Forall
    fun op => op.writes ⊆ (hostOps0_21_W.map (Proc.devRef (τ := τ) .tc)).toFinset :=
  StableHlo.forall_writes_sub_of_map rfl

/-- The buffers after 7 stretches after the scan. -/
noncomputable def exit7 : Valuation τ sig (Elt Ideal) := after hostOps0_21 (exit6 m c)

/-- That stretch leaves alone what it doesn't write. -/
theorem exitKeep7 (r : Ref sig .tc) (h : r ∉ hostOps0_21_W) :
    exit7 m c (Proc.devRef .tc r) = exit6 m c (Proc.devRef .tc r) :=
  after_of_writes_sub _ _ hostOps0_21_writes h

/-- The arguments after it. -/
theorem exitArgs7 (r : Ref sig .tc) (h : r ∈ inputs) :
    exit7 m c (Proc.devRef .tc r) = launchContents m c (Proc.devRef .tc r) :=
  (exitKeep7 m c r ((by decide +kernel : ∀ r ∈ inputs, r ∉ hostOps0_21_W) r h)).trans (exitArgs6 m c r h)

/-- The run ends after the seventh. -/
theorem final_at : finalContents (F := Ideal) condOps preI bodyI postI 2048 m c = exit7 m c := rfl

/-- The forward readouts where the scan ends. -/
theorem mixedF (b : Fin 4) (t : Fin 2048) (j : Fin 256) : (exit0 m c (Proc.devRef .tc main_v100_9) : FVec Ideal S2048x4x256 .f32) (ix3 t b j) = mix (uF m c) (seq m c b) t j := by
  refine (congrFun (exitKeep0 m c main_v100_9 (by decide +kernel)) (ix3 t b j)).trans ?_
  refine (readsF m c (zeroF m c) t b j 2048 le_rfl t.isLt).trans ?_
  exact mix_of (uF m c) (seq m c b) t j
    (fun n t => (entry m c main_v100_0 : FVec Ideal S2048x4x256x16 .f32) (ix4 t b j n))
    (fun n t => (entry m c main_v100_1 : FVec Ideal S2048x4x256x16 .f32) (ix4 t b j n))
    (fun n => (entry m c main_v100_2 : FVec Ideal S2048x4x16 .f32) (ix3 t b n))
    (fun n => funext fun t => fallsEntryF m c b t j n) (fun n => funext fun t => pushesEntryF m c b t j n)
    (fun n => sightsEntryF m c b t n)

/-- The forward readouts and the skipped activation. -/
theorem blendedF (b : Fin 4) (t : Fin 2048) (j : Fin 256) :
    (exit1 m c (Proc.devRef .tc main_v105) : FVec Ideal S4x2048x256 .f32) (ix3 b t j) = mix (uF m c) (seq m c b) t j + (uF m c).skip j * xc (uF m c) (seq m c b) t j :=
  blendF (exit0 m c) (uF m c) (seq m c b) b
    (fun t j => (mixedF m c b t j))
    (fun j => (congrFun (exitArgs0 m c main_arg8 (by decide +kernel)) (ix1 j)))
    (fun t j => ((congrFun (spare0 m c main_v19 (by decide +kernel)) (ix3 b t j)).trans (activeEntryF m c b t j))) t j

/-- The forward gate. -/
theorem gatesF (b : Fin 4) (t : Fin 2048) (j : Fin 256) :
    (exit2 m c (Proc.devRef .tc main_v106) : FVec Ideal S4x2048x256 .f32) (ix3 b t j) = silu (proj (uF m c) (seq m c b) t ⟨256 + j.val, by omega⟩) :=
  gateF (exit1 m c) (uF m c) (seq m c b) b
    (fun t j => ((congrFun (exitKeep1 m c main_v2 (by decide +kernel)) (ix3 b t j)).trans ((congrFun (spare0 m c main_v2 (by decide +kernel)) (ix3 b t j)).trans (secondEntryF m c b t j)))) t j

/-- The forward output. -/
theorem outsF (b : Fin 4) (t : Fin 2048) (i : Fin 256) : (exit3 m c (Proc.devRef .tc main_v108) : FVec Ideal S4x2048x256 .f32) (ix3 b t i) = out (uF m c) (seq m c b) t i :=
  lastF (exit2 m c) (uF m c) (seq m c b) b
    (fun t j => ((congrFun (exitKeep2 m c main_v105 (by decide +kernel)) (ix3 b t j)).trans (blendedF m c b t j)))
    (gatesF m c b)
    (fun i j => (congrFun (exitArgs2 m c main_arg9 (by decide +kernel)) (ix2 i j))) t i

/-- The backward readouts where the scan ends. -/
theorem mixedR (b : Fin 4) (t : Fin 2048) (j : Fin 256) : (exit0 m c (Proc.devRef .tc main_v100_10) : FVec Ideal S2048x4x256 .f32) (ix3 t b j) = mix (uR m c) (seqR m c b) t j := by
  refine (congrFun (exitKeep0 m c main_v100_10 (by decide +kernel)) (ix3 t b j)).trans ?_
  refine (readsR m c (zeroR m c) t b j 2048 le_rfl t.isLt).trans ?_
  exact mix_of (uR m c) (seqR m c b) t j
    (fun n t => (entry m c main_v100_3 : FVec Ideal S2048x4x256x16 .f32) (ix4 t b j n))
    (fun n t => (entry m c main_v100_4 : FVec Ideal S2048x4x256x16 .f32) (ix4 t b j n))
    (fun n => (entry m c main_v100_5 : FVec Ideal S2048x4x16 .f32) (ix3 t b n))
    (fun n => funext fun t => fallsR m c b t j n) (fun n => funext fun t => pushesR m c b t j n)
    (fun n => sightsR m c b t n)

/-- The backward readouts and the skipped activation. -/
theorem blendedR (b : Fin 4) (t : Fin 2048) (j : Fin 256) :
    (exit3 m c (Proc.devRef .tc main_v113) : FVec Ideal S4x2048x256 .f32) (ix3 b t j) = mix (uR m c) (seqR m c b) t j + (uR m c).skip j * xc (uR m c) (seqR m c b) t j :=
  blendR (exit2 m c) (uR m c) (seqR m c b) b
    (fun t j => ((congrFun ((exitKeep2 m c main_v100_10 (by decide +kernel)).trans (exitKeep1 m c main_v100_10 (by decide +kernel))) (ix3 t b j)).trans (mixedR m c b t j)))
    (fun j => (congrFun (exitArgs2 m c main_arg17 (by decide +kernel)) (ix1 j)))
    (fun t j => ((congrFun ((exitKeep2 m c main_v68 (by decide +kernel)).trans (exitKeep1 m c main_v68 (by decide +kernel))) (ix3 b t j)).trans ((congrFun (spare0 m c main_v68 (by decide +kernel)) (ix3 b t j)).trans (activeEntryR m c b t j)))) t j

/-- The backward gate. -/
theorem gatesR (b : Fin 4) (t : Fin 2048) (j : Fin 256) :
    (exit4 m c (Proc.devRef .tc main_v114) : FVec Ideal S4x2048x256 .f32) (ix3 b t j) = silu (proj (uR m c) (seqR m c b) t ⟨256 + j.val, by omega⟩) :=
  gateR (exit3 m c) (uR m c) (seqR m c b) b
    (fun t j => ((congrFun ((exitKeep3 m c main_v51 (by decide +kernel)).trans ((exitKeep2 m c main_v51 (by decide +kernel)).trans (exitKeep1 m c main_v51 (by decide +kernel)))) (ix3 b t j)).trans ((congrFun (spare0 m c main_v51 (by decide +kernel)) (ix3 b t j)).trans (secondEntryR m c b t j)))) t j

/-- The backward output. -/
theorem outsR (b : Fin 4) (t : Fin 2048) (i : Fin 256) : (exit5 m c (Proc.devRef .tc main_v116) : FVec Ideal S4x2048x256 .f32) (ix3 b t i) = out (uR m c) (seqR m c b) t i :=
  lastR (exit4 m c) (uR m c) (seqR m c b) b
    (fun t j => ((congrFun (exitKeep4 m c main_v113 (by decide +kernel)) (ix3 b t j)).trans (blendedR m c b t j)))
    (gatesR m c b)
    (fun i j => (congrFun (exitArgs4 m c main_arg18 (by decide +kernel)) (ix2 i j))) t i

/-- The result at an index. -/
theorem result_at (b : Fin 4) (t : Fin 2048) (i : Fin 256) :
    (exit7 m c (Proc.devRef .tc main_v118) : FVec Ideal S4x2048x256 .f32) (ix3 b t i) = both (seq m c b) (uF m c) (uR m c) t i :=
  (summed (exit6 m c) b t i).trans (congrArg₂ (fun p q : EReal => p + q)
    ((congrFun ((exitKeep6 m c main_v108 (by decide +kernel)).trans ((exitKeep5 m c main_v108 (by decide +kernel)).trans (exitKeep4 m c main_v108 (by decide +kernel)))) (ix3 b t i)).trans (outsF m c b t i))
    ((turnedOut (exit5 m c) b t i).trans (outsR m c b (back t) i)))

/-- The result: both directions on every sequence of the batch. -/
theorem result_eq : (finalContents (F := Ideal) condOps preI bodyI postI 2048 m c (Proc.devRef .tc main_v118) : FVec Ideal S4x2048x256 .f32)
    = answer (launchContents m c (Proc.devRef .tc main_arg0)) (uF m c) (uR m c) := by
  funext y
  have e : y = ix3 (y 0) (y 1) (y 2) := by
    funext a
    fin_cases a <;> rfl
  exact (congrArg (fun q : S4x2048x256.Idx => (exit7 m c (Proc.devRef .tc main_v118) : FVec Ideal S4x2048x256 .f32) q) e).trans (result_at m c (y 0) (y 1) (y 2))

/-- No argument is written. -/
theorem inputs_kept (r : Ref sig .tc) (h : r ∈ inputs) :
    finalContents (F := Ideal) condOps preI bodyI postI 2048 m c (Proc.devRef .tc r) = launchContents m c (Proc.devRef .tc r) :=
  exitArgs7 m c r h

end Cert.ReferenceIdeal.Value
-- ==== Proof.RefRun.lean ====
module

public import proofs.«01_k».proof.Proof.RefExit
public import Idealize.ShloMosaic.Lib.Quiescent
public import Idealize.ShloMosaic.Lib.Claim

/-!
# The reference's run

It ends with the result the answer, the arguments unchanged and every counter at zero.
-/

@[expose] public section

set_option maxRecDepth 16384

open Idealize.ShloMosaic Idealize.SL.Sem Cert.Mamba

namespace Cert.ReferenceIdeal.Value

open Cert.ReferenceIdeal Cert.ReferenceIdeal.Gen Idealize.ShloMosaic.StableHlo

variable (m : (ℓ : Loc nD τ sig) → Buf (Elt Ideal) ℓ) (ρ : Dev nD → PrngReg)

/-- The run leaves the answer in the result and the arguments as they were. -/
theorem run_answer : θ_run (defs (F := Ideal)) (onTc (τ := τ) (main (F := Ideal))) ⟨m, fun _ => 0, ρ⟩
    (fun r => ∀ c : Dev nD,
      r.2.mem ((c.tc : Thread nD τ).loc main_v118)
        = answer (m ((c.tc : Thread nD τ).loc main_arg0)) (uF m c) (uR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  θ_run_mono (run_fold m ρ) fun r hr c =>
    ⟨(hr c main_v118 rfl).trans (result_eq m c), (hr c main_arg0 rfl).trans (inputs_kept m c main_arg0 (by decide +kernel)), (hr c main_arg1 rfl).trans (inputs_kept m c main_arg1 (by decide +kernel)), (hr c main_arg2 rfl).trans (inputs_kept m c main_arg2 (by decide +kernel)), (hr c main_arg3 rfl).trans (inputs_kept m c main_arg3 (by decide +kernel)), (hr c main_arg4 rfl).trans (inputs_kept m c main_arg4 (by decide +kernel)), (hr c main_arg5 rfl).trans (inputs_kept m c main_arg5 (by decide +kernel)), (hr c main_arg6 rfl).trans (inputs_kept m c main_arg6 (by decide +kernel)), (hr c main_arg7 rfl).trans (inputs_kept m c main_arg7 (by decide +kernel)), (hr c main_arg8 rfl).trans (inputs_kept m c main_arg8 (by decide +kernel)), (hr c main_arg9 rfl).trans (inputs_kept m c main_arg9 (by decide +kernel)), (hr c main_arg10 rfl).trans (inputs_kept m c main_arg10 (by decide +kernel)), (hr c main_arg11 rfl).trans (inputs_kept m c main_arg11 (by decide +kernel)), (hr c main_arg12 rfl).trans (inputs_kept m c main_arg12 (by decide +kernel)), (hr c main_arg13 rfl).trans (inputs_kept m c main_arg13 (by decide +kernel)), (hr c main_arg14 rfl).trans (inputs_kept m c main_arg14 (by decide +kernel)), (hr c main_arg15 rfl).trans (inputs_kept m c main_arg15 (by decide +kernel)), (hr c main_arg16 rfl).trans (inputs_kept m c main_arg16 (by decide +kernel)), (hr c main_arg17 rfl).trans (inputs_kept m c main_arg17 (by decide +kernel)), (hr c main_arg18 rfl).trans (inputs_kept m c main_arg18 (by decide +kernel))⟩

/-- The run leaves the arguments as they were and every counter at zero. -/
theorem quiet : θ_run (defs (F := Ideal)) (onTc (τ := τ) (main (F := Ideal))) ⟨m, fun _ => 0, ρ⟩
    (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_mono (run_answer m ρ) fun r hr => ⟨fun c => (hr c).2, sem_eq_zero_of_no_sems rfl r.2⟩

end Cert.ReferenceIdeal.Value
-- ==== Proof.Equation.lean ====
module

public import proofs.«01_k».proof.Proof.ArrayValue
public import proofs.«01_k».proof.Proof.RefRun

/-!
# The equation

From arguments that agree, what the reference returns is what the kernel's array holds.
-/

@[expose] public section

open Idealize.ShloMosaic Idealize.SL.Sem Cert.Mamba

namespace Cert.Equation

/-- Equal arrays hold equal weights. -/
theorem weights_congr
    {inw inw' : FVec Ideal ⟨2, ![512, 256]⟩ .f32}
    {cw cw' : FVec Ideal ⟨2, ![256, 2]⟩ .f32}
    {cb cb' : FVec Ideal ⟨1, ![256]⟩ .f32}
    {xw xw' : FVec Ideal ⟨2, ![48, 256]⟩ .f32}
    {dw dw' : FVec Ideal ⟨2, ![256, 16]⟩ .f32}
    {db db' : FVec Ideal ⟨1, ![256]⟩ .f32}
    {al al' : FVec Ideal ⟨2, ![256, 16]⟩ .f32}
    {skip skip' : FVec Ideal ⟨1, ![256]⟩ .f32}
    {ow ow' : FVec Ideal ⟨2, ![256, 256]⟩ .f32}
    (h0 : inw' = inw) (h1 : cw' = cw) (h2 : cb' = cb) (h3 : xw' = xw) (h4 : dw' = dw) (h5 : db' = db) (h6 : al' = al) (h7 : skip' = skip) (h8 : ow' = ow) :
    Weights.ofArrays inw' cw' cb' xw' dw' db' al' skip' ow' = Weights.ofArrays inw cw cb xw dw db al skip ow := by
  subst h0 h1 h2 h3 h4 h5 h6 h7 h8
  rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Arguments that agree hold the same forward weights. -/
theorem weightsF
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9)) :
    Cert.ReferenceIdeal.Value.uF m' c = Cert.KernelIdeal.Gen.wF m c :=
  weights_congr h1 h2 h3 h4 h5 h6 h7 h8 h9

/-- Arguments that agree hold the same backward weights. -/
theorem weightsR
    (h10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13)
      = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14)
      = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15)
      = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16)
      = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17)
      = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18)
      = m ((c.tc : Thread Cert.KernelIdeal.nD Cert.KernelIdeal.τ).loc Cert.KernelIdeal.main_arg18)) :
    Cert.ReferenceIdeal.Value.uR m' c = Cert.KernelIdeal.Gen.wR m c :=
  weights_congr h10 h11 h12 h13 h14 h15 h16 h17 h18

/-- Equal sequences and weights give equal answers. -/
theorem answer_congr {x x' : FVec Ideal ⟨3, ![4, 2048, 256]⟩ .f32} {f f' r r' : Weights}
    (hx : x' = x) (hf : f' = f) (hr : r' = r) : answer x' f' r' = answer x f r := by
  rw [hx, hf, hr]

/-- The reference's result and the kernel's array are equal. -/
theorem same
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13)
      = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14)
      = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15)
      = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16)
      = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17)
      = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18)
      = m ((c.tc : Thread Cert.KernelIdeal.nD Cert.KernelIdeal.τ).loc Cert.KernelIdeal.main_arg18)) :
    answer (m' ((c.tc : Thread Cert.ReferenceIdeal.nD Cert.ReferenceIdeal.τ).loc Cert.ReferenceIdeal.main_arg0))
        (Cert.ReferenceIdeal.Value.uF m' c) (Cert.ReferenceIdeal.Value.uR m' c)
      = (Cert.KernelIdeal.Gen.dats m 0 c).arrAt 21 Cert.KernelIdeal.cfg0.N :=
  (answer_congr h0 (weightsF m m' c h1 h2 h3 h4 h5 h6 h7 h8 h9)
    (weightsR m m' c h10 h11 h12 h13 h14 h15 h16 h17 h18)).trans (Cert.KernelIdeal.Gen.array_value m c).symm

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Both programs run from arguments that agree, end with equal results and leave the arguments alone. -/
theorem equal : algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats m 0 c).arrAt 21 Cert.KernelIdeal.cfg0.N,
    Cert.KernelIdeal.Value.run_blocks m g, ?_⟩
  refine θ_run_mono (Cert.ReferenceIdeal.Value.run_answer m' g') fun r hr c => ?_
  obtain ⟨h0, h1, h2, h3, h4, h5, h6, h7, h8, h9, h10, h11, h12, h13, h14, h15, h16, h17, h18⟩ := hagree c
  exact ⟨(hr c).1.trans (Cert.Equation.same m m' c h0 h1 h2 h3 h4 h5 h6 h7 h8 h9 h10 h11 h12 h13 h14 h15 h16 h17 h18), (hr c).2⟩

/-- Every claim: the three frames, the idealization that rewrites nothing, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Value.quiet m ρ, trivial, equal⟩

end Cert.Proof

end
